-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S256x2048 : Shape := ⟨2, ![256, 2048]⟩
abbrev S256x768 : Shape := ⟨2, ![256, 768]⟩
abbrev S256x512 : Shape := ⟨2, ![256, 512]⟩
abbrev S3x256x2048 : Shape := ⟨3, ![3, 256, 2048]⟩
abbrev S3 : Shape := ⟨1, ![3]⟩
abbrev S3x2 : Shape := ⟨2, ![3, 2]⟩
abbrev S_ : Shape := ⟨0, ![]⟩
abbrev S1024x768 : Shape := ⟨2, ![1024, 768]⟩
abbrev S256x1024 : Shape := ⟨2, ![256, 1024]⟩
abbrev S1 : Shape := ⟨1, ![1]⟩
abbrev S1024x512 : Shape := ⟨2, ![1024, 512]⟩
abbrev S1024x1536 : Shape := ⟨2, ![1024, 1536]⟩
abbrev S256x1536 : Shape := ⟨2, ![256, 1536]⟩
abbrev S1x256x1536 : Shape := ⟨3, ![1, 256, 1536]⟩
abbrev S1x1 : Shape := ⟨2, ![1, 1]⟩
abbrev S1024x1280 : Shape := ⟨2, ![1024, 1280]⟩
abbrev S256x1280 : Shape := ⟨2, ![256, 1280]⟩
abbrev S1x256x1280 : Shape := ⟨3, ![1, 256, 1280]⟩
abbrev S1x256x768 : Shape := ⟨3, ![1, 256, 768]⟩
abbrev S1x256x512 : Shape := ⟨3, ![1, 256, 512]⟩
abbrev S1x256x2048 : Shape := ⟨3, ![1, 256, 2048]⟩

abbrev nBuf : Space → Nat
  | .hbm => 3
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S256x2048, .f32⟩
  | .local _ .vmem, ⟨0, _⟩ => ⟨S2048x1024, .bf16⟩
  | .local _ .vmem, ⟨1, _⟩ => ⟨S1024x2048, .bf16⟩
  | .local _ .vmem, ⟨2, _⟩ => ⟨S256x2048, .f32⟩
  | .local _ .vmem, ⟨3, _⟩ => ⟨S1024x2048, .bf16⟩
  | .local _ .vmem, ⟨4, _⟩ => ⟨S256x2048, .bf16⟩
  | .local _ .vmem, ⟨5, _⟩ => ⟨S256x768, .bf16⟩
  | .local _ .vmem, ⟨6, _⟩ => ⟨S256x768, .bf16⟩
  | .local _ .vmem, ⟨7, _⟩ => ⟨S256x512, .bf16⟩
  | .local _ .vmem, ⟨8, _⟩ => ⟨S3x256x2048, .bf16⟩
  | .local _ .vmem, ⟨9, _⟩ => ⟨S3x256x2048, .bf16⟩
  | .local _ .vmem, ⟨10, _⟩ => ⟨S3x256x2048, .bf16⟩
  | .local _ .vmem, ⟨11, _⟩ => ⟨S3x256x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c4_i32_3 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v10 : BitVec 32 := Scalar.muli c4_i32_3 v3
  let c2_i32_4 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v11 : BitVec 32 := Scalar.muli c2_i32_4 v5
  let v12 : BitVec 32 := Scalar.addi v10 v11
  let c1_i32_2 : BitVec 32 := 1#32
  let v6 : BitVec 32 := Scalar.addi v4 v5
  let c2_i32_1 : BitVec 32 := 2#32
  let v7 : BitVec 32 := Scalar.remsi v6 c2_i32_1
  let v9 : BitVec 32 := Scalar.subi c1_i32_2 v7
  let v13 : BitVec 32 := Scalar.addi v9 v5
  let c2_i32_5 : BitVec 32 := 2#32
  let v14 : BitVec 32 := Scalar.remsi v13 c2_i32_5
  let v15 : BitVec 32 := Scalar.addi v12 v14
  let c1_i32_7 : BitVec 32 := 1#32
  let v16 : BitVec 32 := Scalar.muli v15 c1_i32_7
  let v17 : BitVec 32 := Scalar.addi c0_i32 v16
  v17.toNat
def k0_dev2 (d0 : Dev nD) : Nat :=
  let c0_i32_14 : BitVec 32 := 0#32
  let c4_i32_9 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v19 : BitVec 32 := Scalar.muli c4_i32_9 v3
  let c2_i32_10 : BitVec 32 := 2#32
  let c1_i32_8 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v18 : BitVec 32 := Scalar.subi c1_i32_8 v5
  let v20 : BitVec 32 := Scalar.muli c2_i32_10 v18
  let v21 : BitVec 32 := Scalar.addi v19 v20
  let v6 : BitVec 32 := Scalar.addi v4 v5
  let c2_i32_1 : BitVec 32 := 2#32
  let v7 : BitVec 32 := Scalar.remsi v6 c2_i32_1
  let v22 : BitVec 32 := Scalar.addi v7 v18
  let c2_i32_11 : BitVec 32 := 2#32
  let v23 : BitVec 32 := Scalar.remsi v22 c2_i32_11
  let v24 : BitVec 32 := Scalar.addi v21 v23
  let c1_i32_13 : BitVec 32 := 1#32
  let v25 : BitVec 32 := Scalar.muli v24 c1_i32_13
  let v26 : BitVec 32 := Scalar.addi c0_i32_14 v25
  v26.toNat
def k0_dev3 (d0 : Dev nD) : Nat :=
  let c0_i32_21 : BitVec 32 := 0#32
  let c4_i32_16 : BitVec 32 := 4#32
  let c1_i32_15 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v27 : BitVec 32 := Scalar.subi c1_i32_15 v3
  let v28 : BitVec 32 := Scalar.muli c4_i32_16 v27
  let c2_i32_17 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v29 : BitVec 32 := Scalar.muli c2_i32_17 v5
  let v30 : BitVec 32 := Scalar.addi v28 v29
  let v6 : BitVec 32 := Scalar.addi v4 v5
  let c2_i32_1 : BitVec 32 := 2#32
  let v7 : BitVec 32 := Scalar.remsi v6 c2_i32_1
  let v31 : BitVec 32 := Scalar.addi v7 v5
  let c2_i32_18 : BitVec 32 := 2#32
  let v32 : BitVec 32 := Scalar.remsi v31 c2_i32_18
  let v33 : BitVec 32 := Scalar.addi v30 v32
  let c1_i32_20 : BitVec 32 := 1#32
  let v34 : BitVec 32 := Scalar.muli v33 c1_i32_20
  let v35 : BitVec 32 := Scalar.addi c0_i32_21 v34
  v35.toNat
def k0_off1 (d0 : Dev nD) : Fin 2 → Nat :=
  let c4_i32_25 : BitVec 32 := 4#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v38 : BitVec 32 := Scalar.subi c1_i32_24 v3
  let v39 : BitVec 32 := Scalar.muli c4_i32_25 v38
  let c2_i32_26 : BitVec 32 := 2#32
  let c1_i32_23 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v37 : BitVec 32 := Scalar.subi c1_i32_23 v5
  let v40 : BitVec 32 := Scalar.muli c2_i32_26 v37
  let v41 : BitVec 32 := Scalar.addi v39 v40
  let c1_i32_22 : BitVec 32 := 1#32
  let v6 : BitVec 32 := Scalar.addi v4 v5
  let c2_i32_1 : BitVec 32 := 2#32
  let v7 : BitVec 32 := Scalar.remsi v6 c2_i32_1
  let v36 : BitVec 32 := Scalar.subi c1_i32_22 v7
  let v42 : BitVec 32 := Scalar.addi v36 v37
  let c2_i32_27 : BitVec 32 := 2#32
  let v43 : BitVec 32 := Scalar.remsi v42 c2_i32_27
  let v44 : BitVec 32 := Scalar.addi v41 v43
  let c256_i32 : BitVec 32 := 256#32
  let v50 : BitVec 32 := Scalar.muli v44 c256_i32
  let v51 : Index := Scalar.indexCast v50
  let c0_31 : Index := 0#32
  ![v51.toNat, 0]
def k0_dev4 (d0 : Dev nD) : Nat :=
  let c0_i32_43 : BitVec 32 := 0#32
  let c4_i32_37 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v61 : BitVec 32 := Scalar.muli c4_i32_37 v3
  let c2_i32_38 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v62 : BitVec 32 := Scalar.muli c2_i32_38 v5
  let v63 : BitVec 32 := Scalar.addi v61 v62
  let c1_i32_36 : BitVec 32 := 1#32
  let v6 : BitVec 32 := Scalar.addi v4 v5
  let c2_i32_1 : BitVec 32 := 2#32
  let v7 : BitVec 32 := Scalar.remsi v6 c2_i32_1
  let v60 : BitVec 32 := Scalar.subi c1_i32_36 v7
  let v64 : BitVec 32 := Scalar.addi v60 v5
  let c2_i32_39 : BitVec 32 := 2#32
  let v65 : BitVec 32 := Scalar.remsi v64 c2_i32_39
  let v66 : BitVec 32 := Scalar.addi v63 v65
  let c1_i32_42 : BitVec 32 := 1#32
  let v67 : BitVec 32 := Scalar.muli v66 c1_i32_42
  let v68 : BitVec 32 := Scalar.addi c0_i32_43 v67
  v68.toNat
def k0_dev5 (d0 : Dev nD) : Nat :=
  let c0_i32_63 : BitVec 32 := 0#32
  let c4_i32_57 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v90 : BitVec 32 := Scalar.muli c4_i32_57 v3
  let c2_i32_58 : BitVec 32 := 2#32
  let c1_i32_56 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v89 : BitVec 32 := Scalar.subi c1_i32_56 v5
  let v91 : BitVec 32 := Scalar.muli c2_i32_58 v89
  let v92 : BitVec 32 := Scalar.addi v90 v91
  let v6 : BitVec 32 := Scalar.addi v4 v5
  let c2_i32_1 : BitVec 32 := 2#32
  let v7 : BitVec 32 := Scalar.remsi v6 c2_i32_1
  let v93 : BitVec 32 := Scalar.addi v7 v89
  let c2_i32_59 : BitVec 32 := 2#32
  let v94 : BitVec 32 := Scalar.remsi v93 c2_i32_59
  let v95 : BitVec 32 := Scalar.addi v92 v94
  let c1_i32_62 : BitVec 32 := 1#32
  let v96 : BitVec 32 := Scalar.muli v95 c1_i32_62
  let v97 : BitVec 32 := Scalar.addi c0_i32_63 v96
  v97.toNat
def k0_dev6 (d0 : Dev nD) : Nat :=
  let c0_i32_82 : BitVec 32 := 0#32
  let c4_i32_76 : BitVec 32 := 4#32
  let c1_i32_75 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v118 : BitVec 32 := Scalar.subi c1_i32_75 v3
  let v119 : BitVec 32 := Scalar.muli c4_i32_76 v118
  let c2_i32_77 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v120 : BitVec 32 := Scalar.muli c2_i32_77 v5
  let v121 : BitVec 32 := Scalar.addi v119 v120
  let v6 : BitVec 32 := Scalar.addi v4 v5
  let c2_i32_1 : BitVec 32 := 2#32
  let v7 : BitVec 32 := Scalar.remsi v6 c2_i32_1
  let v122 : BitVec 32 := Scalar.addi v7 v5
  let c2_i32_78 : BitVec 32 := 2#32
  let v123 : BitVec 32 := Scalar.remsi v122 c2_i32_78
  let v124 : BitVec 32 := Scalar.addi v121 v123
  let c1_i32_81 : BitVec 32 := 1#32
  let v125 : BitVec 32 := Scalar.muli v124 c1_i32_81
  let v126 : BitVec 32 := Scalar.addi c0_i32_82 v125
  v126.toNat
def k0_off2 (d0 : Dev nD) : Fin 2 → Nat :=
  let c4_i32_86 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v134 : BitVec 32 := Scalar.muli c4_i32_86 v3
  let c2_i32_87 : BitVec 32 := 2#32
  let c1_i32_85 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v133 : BitVec 32 := Scalar.subi c1_i32_85 v5
  let v135 : BitVec 32 := Scalar.muli c2_i32_87 v133
  let v136 : BitVec 32 := Scalar.addi v134 v135
  let c1_i32_84 : BitVec 32 := 1#32
  let v6 : BitVec 32 := Scalar.addi v4 v5
  let c2_i32_1 : BitVec 32 := 2#32
  let v7 : BitVec 32 := Scalar.remsi v6 c2_i32_1
  let v132 : BitVec 32 := Scalar.subi c1_i32_84 v7
  let v137 : BitVec 32 := Scalar.addi v132 v133
  let c2_i32_88 : BitVec 32 := 2#32
  let v138 : BitVec 32 := Scalar.remsi v137 c2_i32_88
  let v139 : BitVec 32 := Scalar.addi v136 v138
  let c256_i32_89 : BitVec 32 := 256#32
  let v140 : BitVec 32 := Scalar.muli v139 c256_i32_89
  let v141 : Index := Scalar.indexCast v140
  let c0_90 : Index := 0#32
  ![v141.toNat, 0]
def k0_dev7 (d0 : Dev nD) : Nat :=
  let c0_i32_108 : BitVec 32 := 0#32
  let c4_i32_98 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v151 : BitVec 32 := Scalar.muli c4_i32_98 v3
  let c2_i32_99 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v152 : BitVec 32 := Scalar.muli c2_i32_99 v5
  let v153 : BitVec 32 := Scalar.addi v151 v152
  let c1_i32_97 : BitVec 32 := 1#32
  let v6 : BitVec 32 := Scalar.addi v4 v5
  let c2_i32_1 : BitVec 32 := 2#32
  let v7 : BitVec 32 := Scalar.remsi v6 c2_i32_1
  let v150 : BitVec 32 := Scalar.subi c1_i32_97 v7
  let v154 : BitVec 32 := Scalar.addi v150 v5
  let c2_i32_100 : BitVec 32 := 2#32
  let v155 : BitVec 32 := Scalar.remsi v154 c2_i32_100
  let v156 : BitVec 32 := Scalar.addi v153 v155
  let c1_i32_107 : BitVec 32 := 1#32
  let v157 : BitVec 32 := Scalar.muli v156 c1_i32_107
  let v158 : BitVec 32 := Scalar.addi c0_i32_108 v157
  v158.toNat
def k0_off3 (d0 : Dev nD) : Fin 2 → Nat :=
  let c4_i32_115 : BitVec 32 := 4#32
  let c1_i32_114 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v168 : BitVec 32 := Scalar.subi c1_i32_114 v3
  let v169 : BitVec 32 := Scalar.muli c4_i32_115 v168
  let c2_i32_116 : BitVec 32 := 2#32
  let c1_i32_113 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v167 : BitVec 32 := Scalar.subi c1_i32_113 v5
  let v170 : BitVec 32 := Scalar.muli c2_i32_116 v167
  let v171 : BitVec 32 := Scalar.addi v169 v170
  let v6 : BitVec 32 := Scalar.addi v4 v5
  let c2_i32_1 : BitVec 32 := 2#32
  let v7 : BitVec 32 := Scalar.remsi v6 c2_i32_1
  let v172 : BitVec 32 := Scalar.addi v7 v167
  let c2_i32_117 : BitVec 32 := 2#32
  let v173 : BitVec 32 := Scalar.remsi v172 c2_i32_117
  let v174 : BitVec 32 := Scalar.addi v171 v173
  let c256_i32_118 : BitVec 32 := 256#32
  let v175 : BitVec 32 := Scalar.muli v174 c256_i32_118
  let v176 : Index := Scalar.indexCast v175
  let c0_119 : Index := 0#32
  ![v176.toNat, 0]
def k0_dev8 (d0 : Dev nD) : Nat :=
  let c0_i32_136 : BitVec 32 := 0#32
  let c4_i32_126 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v186 : BitVec 32 := Scalar.muli c4_i32_126 v3
  let c2_i32_127 : BitVec 32 := 2#32
  let c1_i32_125 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v185 : BitVec 32 := Scalar.subi c1_i32_125 v5
  let v187 : BitVec 32 := Scalar.muli c2_i32_127 v185
  let v188 : BitVec 32 := Scalar.addi v186 v187
  let v6 : BitVec 32 := Scalar.addi v4 v5
  let c2_i32_1 : BitVec 32 := 2#32
  let v7 : BitVec 32 := Scalar.remsi v6 c2_i32_1
  let v189 : BitVec 32 := Scalar.addi v7 v185
  let c2_i32_128 : BitVec 32 := 2#32
  let v190 : BitVec 32 := Scalar.remsi v189 c2_i32_128
  let v191 : BitVec 32 := Scalar.addi v188 v190
  let c1_i32_135 : BitVec 32 := 1#32
  let v192 : BitVec 32 := Scalar.muli v191 c1_i32_135
  let v193 : BitVec 32 := Scalar.addi c0_i32_136 v192
  v193.toNat
def k0_off4 (d0 : Dev nD) : Fin 2 → Nat :=
  let c4_i32_143 : BitVec 32 := 4#32
  let c1_i32_142 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v203 : BitVec 32 := Scalar.subi c1_i32_142 v3
  let v204 : BitVec 32 := Scalar.muli c4_i32_143 v203
  let c2_i32_144 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v205 : BitVec 32 := Scalar.muli c2_i32_144 v5
  let v206 : BitVec 32 := Scalar.addi v204 v205
  let c1_i32_141 : BitVec 32 := 1#32
  let v6 : BitVec 32 := Scalar.addi v4 v5
  let c2_i32_1 : BitVec 32 := 2#32
  let v7 : BitVec 32 := Scalar.remsi v6 c2_i32_1
  let v202 : BitVec 32 := Scalar.subi c1_i32_141 v7
  let v207 : BitVec 32 := Scalar.addi v202 v5
  let c2_i32_145 : BitVec 32 := 2#32
  let v208 : BitVec 32 := Scalar.remsi v207 c2_i32_145
  let v209 : BitVec 32 := Scalar.addi v206 v208
  let c256_i32_146 : BitVec 32 := 256#32
  let v210 : BitVec 32 := Scalar.muli v209 c256_i32_146
  let v211 : Index := Scalar.indexCast v210
  let c0_147 : Index := 0#32
  ![v211.toNat, 0]
def k0_dev9 (d0 : Dev nD) : Nat :=
  let c0_i32_164 : BitVec 32 := 0#32
  let c4_i32_154 : BitVec 32 := 4#32
  let c1_i32_153 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v220 : BitVec 32 := Scalar.subi c1_i32_153 v3
  let v221 : BitVec 32 := Scalar.muli c4_i32_154 v220
  let c2_i32_155 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v222 : BitVec 32 := Scalar.muli c2_i32_155 v5
  let v223 : BitVec 32 := Scalar.addi v221 v222
  let v6 : BitVec 32 := Scalar.addi v4 v5
  let c2_i32_1 : BitVec 32 := 2#32
  let v7 : BitVec 32 := Scalar.remsi v6 c2_i32_1
  let v224 : BitVec 32 := Scalar.addi v7 v5
  let c2_i32_156 : BitVec 32 := 2#32
  let v225 : BitVec 32 := Scalar.remsi v224 c2_i32_156
  let v226 : BitVec 32 := Scalar.addi v223 v225
  let c1_i32_163 : BitVec 32 := 1#32
  let v227 : BitVec 32 := Scalar.muli v226 c1_i32_163
  let v228 : BitVec 32 := Scalar.addi c0_i32_164 v227
  v228.toNat
def k0_dev10 (d0 : Dev nD) : Nat :=
  let c0_i32_207 : BitVec 32 := 0#32
  let c4_i32_197 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v268 : BitVec 32 := Scalar.muli c4_i32_197 v3
  let c2_i32_198 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v269 : BitVec 32 := Scalar.muli c2_i32_198 v5
  let v270 : BitVec 32 := Scalar.addi v268 v269
  let c1_i32_196 : BitVec 32 := 1#32
  let v6 : BitVec 32 := Scalar.addi v4 v5
  let c2_i32_1 : BitVec 32 := 2#32
  let v7 : BitVec 32 := Scalar.remsi v6 c2_i32_1
  let v267 : BitVec 32 := Scalar.subi c1_i32_196 v7
  let v271 : BitVec 32 := Scalar.addi v267 v5
  let c2_i32_199 : BitVec 32 := 2#32
  let v272 : BitVec 32 := Scalar.remsi v271 c2_i32_199
  let v273 : BitVec 32 := Scalar.addi v270 v272
  let c1_i32_206 : BitVec 32 := 1#32
  let v274 : BitVec 32 := Scalar.muli v273 c1_i32_206
  let v275 : BitVec 32 := Scalar.addi c0_i32_207 v274
  v275.toNat
def k0_dev11 (d0 : Dev nD) : Nat :=
  let c0_i32_250 : BitVec 32 := 0#32
  let c4_i32_240 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v315 : BitVec 32 := Scalar.muli c4_i32_240 v3
  let c2_i32_241 : BitVec 32 := 2#32
  let c1_i32_239 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v314 : BitVec 32 := Scalar.subi c1_i32_239 v5
  let v316 : BitVec 32 := Scalar.muli c2_i32_241 v314
  let v317 : BitVec 32 := Scalar.addi v315 v316
  let v6 : BitVec 32 := Scalar.addi v4 v5
  let c2_i32_1 : BitVec 32 := 2#32
  let v7 : BitVec 32 := Scalar.remsi v6 c2_i32_1
  let v318 : BitVec 32 := Scalar.addi v7 v314
  let c2_i32_242 : BitVec 32 := 2#32
  let v319 : BitVec 32 := Scalar.remsi v318 c2_i32_242
  let v320 : BitVec 32 := Scalar.addi v317 v319
  let c1_i32_249 : BitVec 32 := 1#32
  let v321 : BitVec 32 := Scalar.muli v320 c1_i32_249
  let v322 : BitVec 32 := Scalar.addi c0_i32_250 v321
  v322.toNat
def k0_dev12 (d0 : Dev nD) : Nat :=
  let c0_i32_293 : BitVec 32 := 0#32
  let c4_i32_283 : BitVec 32 := 4#32
  let c1_i32_282 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v361 : BitVec 32 := Scalar.subi c1_i32_282 v3
  let v362 : BitVec 32 := Scalar.muli c4_i32_283 v361
  let c2_i32_284 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v363 : BitVec 32 := Scalar.muli c2_i32_284 v5
  let v364 : BitVec 32 := Scalar.addi v362 v363
  let v6 : BitVec 32 := Scalar.addi v4 v5
  let c2_i32_1 : BitVec 32 := 2#32
  let v7 : BitVec 32 := Scalar.remsi v6 c2_i32_1
  let v365 : BitVec 32 := Scalar.addi v7 v5
  let c2_i32_285 : BitVec 32 := 2#32
  let v366 : BitVec 32 := Scalar.remsi v365 c2_i32_285
  let v367 : BitVec 32 := Scalar.addi v364 v366
  let c1_i32_292 : BitVec 32 := 1#32
  let v368 : BitVec 32 := Scalar.muli v367 c1_i32_292
  let v369 : BitVec 32 := Scalar.addi c0_i32_293 v368
  v369.toNat
def k0_off5 (d0 : Dev nD) : Fin 2 → Nat :=
  let c4_i32_299 : BitVec 32 := 4#32
  let c1_i32_298 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v378 : BitVec 32 := Scalar.subi c1_i32_298 v3
  let v379 : BitVec 32 := Scalar.muli c4_i32_299 v378
  let c2_i32_300 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v380 : BitVec 32 := Scalar.muli c2_i32_300 v5
  let v381 : BitVec 32 := Scalar.addi v379 v380
  let v6 : BitVec 32 := Scalar.addi v4 v5
  let c2_i32_1 : BitVec 32 := 2#32
  let v7 : BitVec 32 := Scalar.remsi v6 c2_i32_1
  let v382 : BitVec 32 := Scalar.addi v7 v5
  let c2_i32_301 : BitVec 32 := 2#32
  let v383 : BitVec 32 := Scalar.remsi v382 c2_i32_301
  let v384 : BitVec 32 := Scalar.addi v381 v383
  let c256_i32_302 : BitVec 32 := 256#32
  let v385 : BitVec 32 := Scalar.muli v384 c256_i32_302
  let v386 : Index := Scalar.indexCast v385
  let c0_303 : Index := 0#32
  ![v386.toNat, 0]
def k0_off6 (d0 : Dev nD) : Fin 2 → Nat :=
  let c4_i32_311 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v396 : BitVec 32 := Scalar.muli c4_i32_311 v3
  let c2_i32_312 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v397 : BitVec 32 := Scalar.muli c2_i32_312 v5
  let v398 : BitVec 32 := Scalar.addi v396 v397
  let c1_i32_310 : BitVec 32 := 1#32
  let v6 : BitVec 32 := Scalar.addi v4 v5
  let c2_i32_1 : BitVec 32 := 2#32
  let v7 : BitVec 32 := Scalar.remsi v6 c2_i32_1
  let v395 : BitVec 32 := Scalar.subi c1_i32_310 v7
  let v399 : BitVec 32 := Scalar.addi v395 v5
  let c2_i32_313 : BitVec 32 := 2#32
  let v400 : BitVec 32 := Scalar.remsi v399 c2_i32_313
  let v401 : BitVec 32 := Scalar.addi v398 v400
  let c256_i32_314 : BitVec 32 := 256#32
  let v402 : BitVec 32 := Scalar.muli v401 c256_i32_314
  let v403 : Index := Scalar.indexCast v402
  let c0_315 : Index := 0#32
  ![v403.toNat, 0]
def k0_off7 (d0 : Dev nD) : Fin 2 → Nat :=
  let c4_i32_323 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v413 : BitVec 32 := Scalar.muli c4_i32_323 v3
  let c2_i32_324 : BitVec 32 := 2#32
  let c1_i32_322 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v412 : BitVec 32 := Scalar.subi c1_i32_322 v5
  let v414 : BitVec 32 := Scalar.muli c2_i32_324 v412
  let v415 : BitVec 32 := Scalar.addi v413 v414
  let v6 : BitVec 32 := Scalar.addi v4 v5
  let c2_i32_1 : BitVec 32 := 2#32
  let v7 : BitVec 32 := Scalar.remsi v6 c2_i32_1
  let v416 : BitVec 32 := Scalar.addi v7 v412
  let c2_i32_325 : BitVec 32 := 2#32
  let v417 : BitVec 32 := Scalar.remsi v416 c2_i32_325
  let v418 : BitVec 32 := Scalar.addi v415 v417
  let c256_i32_326 : BitVec 32 := 256#32
  let v419 : BitVec 32 := Scalar.muli v418 c256_i32_326
  let v420 : Index := Scalar.indexCast v419
  let c0_327 : Index := 0#32
  ![v420.toNat, 0]
def k0_dev13 (d0 : Dev nD) : Nat :=
  let c0_i32_370 : BitVec 32 := 0#32
  let c4_i32_360 : BitVec 32 := 4#32
  let c1_i32_359 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v452 : BitVec 32 := Scalar.subi c1_i32_359 v3
  let v453 : BitVec 32 := Scalar.muli c4_i32_360 v452
  let c2_i32_361 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v454 : BitVec 32 := Scalar.muli c2_i32_361 v5
  let v455 : BitVec 32 := Scalar.addi v453 v454
  let v6 : BitVec 32 := Scalar.addi v4 v5
  let c2_i32_1 : BitVec 32 := 2#32
  let v7 : BitVec 32 := Scalar.remsi v6 c2_i32_1
  let v456 : BitVec 32 := Scalar.addi v7 v5
  let c2_i32_362 : BitVec 32 := 2#32
  let v457 : BitVec 32 := Scalar.remsi v456 c2_i32_362
  let v458 : BitVec 32 := Scalar.addi v455 v457
  let c1_i32_369 : BitVec 32 := 1#32
  let v459 : BitVec 32 := Scalar.muli v458 c1_i32_369
  let v460 : BitVec 32 := Scalar.addi c0_i32_370 v459
  v460.toNat
def k0_dev14 (d0 : Dev nD) : Nat :=
  let c0_i32_411 : BitVec 32 := 0#32
  let c4_i32_401 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v493 : BitVec 32 := Scalar.muli c4_i32_401 v3
  let c2_i32_402 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v494 : BitVec 32 := Scalar.muli c2_i32_402 v5
  let v495 : BitVec 32 := Scalar.addi v493 v494
  let c1_i32_400 : BitVec 32 := 1#32
  let v6 : BitVec 32 := Scalar.addi v4 v5
  let c2_i32_1 : BitVec 32 := 2#32
  let v7 : BitVec 32 := Scalar.remsi v6 c2_i32_1
  let v492 : BitVec 32 := Scalar.subi c1_i32_400 v7
  let v496 : BitVec 32 := Scalar.addi v492 v5
  let c2_i32_403 : BitVec 32 := 2#32
  let v497 : BitVec 32 := Scalar.remsi v496 c2_i32_403
  let v498 : BitVec 32 := Scalar.addi v495 v497
  let c1_i32_410 : BitVec 32 := 1#32
  let v499 : BitVec 32 := Scalar.muli v498 c1_i32_410
  let v500 : BitVec 32 := Scalar.addi c0_i32_411 v499
  v500.toNat
def k0_dev15 (d0 : Dev nD) : Nat :=
  let c0_i32_452 : BitVec 32 := 0#32
  let c4_i32_442 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v533 : BitVec 32 := Scalar.muli c4_i32_442 v3
  let c2_i32_443 : BitVec 32 := 2#32
  let c1_i32_441 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v532 : BitVec 32 := Scalar.subi c1_i32_441 v5
  let v534 : BitVec 32 := Scalar.muli c2_i32_443 v532
  let v535 : BitVec 32 := Scalar.addi v533 v534
  let v6 : BitVec 32 := Scalar.addi v4 v5
  let c2_i32_1 : BitVec 32 := 2#32
  let v7 : BitVec 32 := Scalar.remsi v6 c2_i32_1
  let v536 : BitVec 32 := Scalar.addi v7 v532
  let c2_i32_444 : BitVec 32 := 2#32
  let v537 : BitVec 32 := Scalar.remsi v536 c2_i32_444
  let v538 : BitVec 32 := Scalar.addi v535 v537
  let c1_i32_451 : BitVec 32 := 1#32
  let v539 : BitVec 32 := Scalar.muli v538 c1_i32_451
  let v540 : BitVec 32 := Scalar.addi c0_i32_452 v539
  v540.toNat
def k0_dev16 (d0 : Dev nD) : Nat :=
  let c0_i32_493 : BitVec 32 := 0#32
  let c4_i32_483 : BitVec 32 := 4#32
  let c1_i32_482 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v572 : BitVec 32 := Scalar.subi c1_i32_482 v3
  let v573 : BitVec 32 := Scalar.muli c4_i32_483 v572
  let c2_i32_484 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v574 : BitVec 32 := Scalar.muli c2_i32_484 v5
  let v575 : BitVec 32 := Scalar.addi v573 v574
  let v6 : BitVec 32 := Scalar.addi v4 v5
  let c2_i32_1 : BitVec 32 := 2#32
  let v7 : BitVec 32 := Scalar.remsi v6 c2_i32_1
  let v576 : BitVec 32 := Scalar.addi v7 v5
  let c2_i32_485 : BitVec 32 := 2#32
  let v577 : BitVec 32 := Scalar.remsi v576 c2_i32_485
  let v578 : BitVec 32 := Scalar.addi v575 v577
  let c1_i32_492 : BitVec 32 := 1#32
  let v579 : BitVec 32 := Scalar.muli v578 c1_i32_492
  let v580 : BitVec 32 := Scalar.addi c0_i32_493 v579
  v580.toNat
def k0_dev17 (d0 : Dev nD) : Nat :=
  let c0_i32_534 : BitVec 32 := 0#32
  let c4_i32_524 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v613 : BitVec 32 := Scalar.muli c4_i32_524 v3
  let c2_i32_525 : BitVec 32 := 2#32
  let c4_i32_0 : BitVec 32 := 4#32
  let v4 : BitVec 32 := Scalar.remsi v2 c4_i32_0
  let c2_i32 : BitVec 32 := 2#32
  let v5 : BitVec 32 := Scalar.divsi v4 c2_i32
  let v614 : BitVec 32 := Scalar.muli c2_i32_525 v5
  let v615 : BitVec 32 := Scalar.addi v613 v614
  let c1_i32_523 : BitVec 32 := 1#32
  let v6 : BitVec 32 := Scalar.addi v4 v5
  let c2_i32_1 : BitVec 32 := 2#32
  let v7 : BitVec 32 := Scalar.remsi v6 c2_i32_1
  let v612 : BitVec 32 := Scalar.subi c1_i32_523 v7
  let v616 : BitVec 32 := Scalar.addi v612 v5
  let c2_i32_526 : BitVec 32 := 2#32
  let v617 : BitVec 32 := Scalar.remsi v616 c2_i32_526
  let v618 : BitVec 32 := Scalar.addi v615 v617
  let c1_i32_533 : BitVec 32 := 1#32
  let v619 : BitVec 32 := Scalar.muli v618 c1_i32_533
  let v620 : BitVec 32 := Scalar.addi c0_i32_534 v619
  v620.toNat
def k0_dev18 (d0 : Dev nD) : Nat :=
  let c0_i32_575 : BitVec 32 := 0#32
  let c4_i32_565 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v653 : BitVec 32 := Scalar.muli c4_i32_565 v3
  let c2_i32_566 : BitVec 32 := 2#32
  let c1_i32_564 : BitVec 32 := 1#32
  let c4_i32_0 : BitVec 32 := 4#32
  let v4 : BitVec 32 := Scalar.remsi v2 c4_i32_0
  let c2_i32 : BitVec 32 := 2#32
  let v5 : BitVec 32 := Scalar.divsi v4 c2_i32
  let v652 : BitVec 32 := Scalar.subi c1_i32_564 v5
  let v654 : BitVec 32 := Scalar.muli c2_i32_566 v652
  let v655 : BitVec 32 := Scalar.addi v653 v654
  let v6 : BitVec 32 := Scalar.addi v4 v5
  let c2_i32_1 : BitVec 32 := 2#32
  let v7 : BitVec 32 := Scalar.remsi v6 c2_i32_1
  let v656 : BitVec 32 := Scalar.addi v7 v652
  let c2_i32_567 : BitVec 32 := 2#32
  let v657 : BitVec 32 := Scalar.remsi v656 c2_i32_567
  let v658 : BitVec 32 := Scalar.addi v655 v657
  let c1_i32_574 : BitVec 32 := 1#32
  let v659 : BitVec 32 := Scalar.muli v658 c1_i32_574
  let v660 : BitVec 32 := Scalar.addi c0_i32_575 v659
  v660.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_580 : BitVec 32 := 256#32
  let v669 : BitVec 32 := Scalar.muli v2 c256_i32_580
  let v670 : Index := Scalar.indexCast v669
  let c0_581 : Index := 0#32
  ![v670.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Held.lean ====
/-
# What a device holds of its buffers, by values

`held c M S x` says that device `c` owns the elements `S` of the buffer of the whole memref `M`, and that the buffer's
contents there are those of the vector `x` (a vector over the whole buffer; outside `S` it is not constrained). The
lemmas below step a load, a store and give what a landed copy leaves, all in terms of such vectors.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.ViewIndex
public import Idealize.ShloMosaic.Lib.Tactic

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

/-- The ghost state of the run: the launch's own copy of the rounds, and a second one whose duties are named by the
    three links of the cube. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Device `c` owns elements `S` of `M`'s buffer, with the contents that `x` has there. -/
def held (c : Dev nD) {sp : Space} {s : Shape} {e : EltTy} (M : Memref sig .tc sp s e) (S : Finset M.view.ty.Idx)
    (x : s.Idx → Elt F e) : sProp 𝕄 :=
  M.view.loc (c : Thread nD τ) ↦[S]{fullShare} M.view.rep x

/-- The elements of `M`'s buffer that the box of sizes `size` at offsets `off` covers. -/
abbrev reg {sp : Space} {s : Shape} {e : EltTy} (M : Memref sig .tc sp s e) (off size : Fin s.rank → ℕ)
    (inb : ∀ a, off a + size a ≤ s.size a) : Finset M.view.ty.Idx :=
  M.view.setOn (Rect.unit (s := s) off size inb).set

section Facts

variable {sp : Space} {s : Shape} {e : EltTy} (M : Memref sig .tc sp s e)

/-- Two boxes, the first inside the second, cover nested sets of elements. -/
theorem reg_subset {off size off' size' : Fin s.rank → ℕ} (inb : ∀ a, off a + size a ≤ s.size a)
    (inb' : ∀ a, off' a + size' a ≤ s.size a) (h : ∀ a, off' a ≤ off a ∧ off a + size a ≤ off' a + size' a) :
    reg M off size inb ⊆ reg M off' size' inb' := by
  refine Finset.map_subset_map.2 fun y hy => ?_
  rw [Rect.mem_set_unit] at hy ⊢
  intro a
  have := hy a; have := h a
  omega

/-- Contents held on a box depend on the vector only inside the box. -/
theorem held_congr_reg (c : Dev nD) {off size : Fin s.rank → ℕ} (inb : ∀ a, off a + size a ≤ s.size a)
    {x y : s.Idx → Elt F e} (h : ∀ i, i ∈ (Rect.unit (s := s) off size inb).set → x i = y i) :
    (held c M (reg M off size inb) x : sProp 𝕄) = held c M (reg M off size inb) y := by
  refine pointsTo_congr fun i hi => ?_
  obtain ⟨j, hj, rfl⟩ := Finset.mem_map.1 hi
  exact View.eq_of_read_eq (v := M.view) (by rw [View.read_rep, View.read_rep]; exact h j hj)

/-- A vector with `w` put over a box, held on the box, does not depend on what it was before. -/
theorem held_put_base (c : Dev nD) {off size : Fin s.rank → ℕ} (inb : ∀ a, off a + size a ≤ s.size a)
    (x y : s.Idx → Elt F e) (w : (Rect.unit (s := s) off size inb).shape.Idx → Elt F e) :
    (held c M (reg M off size inb) (put x off size w) : sProp 𝕄) = held c M (reg M off size inb) (put y off size w) := by
  refine held_congr_reg M c inb fun i hi => ?_
  rw [Rect.mem_set_unit] at hi
  show dite _ _ _ = dite _ _ _
  rw [dif_pos hi, dif_pos hi]

/-- Whatever a buffer holds, it holds the values of some vector. -/
theorem held_of_pointsTo (hM : M.IsWhole) (c : Dev nD) (S : Finset M.view.ty.Idx) (f : Buf (Elt F) (M.view.loc (c : Thread nD τ))) :
    (M.view.loc (c : Thread nD τ) ↦[S]{fullShare} f : sProp 𝕄) = held c M S (M.view.read (Elt F) f) := by
  refine pointsTo_congr fun i _ => ?_
  have hi : i ∈ M.view.set := by rw [Memref.IsWhole.set_eq_univ hM]; exact Finset.mem_univ _
  obtain ⟨j, -, rfl⟩ := Finset.mem_map.1 hi
  exact View.eq_of_read_eq (v := M.view) (by rw [View.read_rep])

end Facts

section Steps

abbrev 𝒱₀ : Variants := Variants.none

variable {s : Shape} {e : EltTy} {α : Type}

/-- A load of a box that device `c` holds reads the box's window of the vector. -/
theorem load_at (c : Dev nD) (M : Memref sig .tc .vmem s e) {off size : Fin s.rank → ℕ} (inb : ∀ a, off a + size a ≤ s.size a)
    {hl : M.view.LoadsAt (Rect.unit (s := s) off size inb).toLoadRect} {S : Finset M.view.ty.Idx} {x : s.Idx → Elt F e}
    {k : ((Rect.unit (s := s) off size inb).shape.Idx → Elt F e) → Prog (TpuEff nD τ sig (Elt F) Λ₀ .tc) α} {Q : α → sProp 𝕄}
    (hS : reg M off size inb ⊆ S) :
    held c M S x
      ⊢ iprop((held c M S x -∗ wp frame (wpE (defs₀ (F := F)) 𝒱₀ (c : Thread nD τ) none) Set.univ (k (window x off size inb)) Q)
          -∗ wp frame (wpE (defs₀ (F := F)) 𝒱₀ (c : Thread nD τ) none) Set.univ (.op (.load M (Rect.unit (s := s) off size inb).toLoadRect hl) k) Q) := by
  have h := wp_load (defs := defs₀ (F := F)) (Γ := []) 𝒱₀ (c : Thread nD τ) none Set.univ (m := M) (hl := hl) (k := k) (Q := Q)
    (q := fullShare) (f := M.view.rep x) (S := S) hS
  rw [View.readAt_rep_unit M.view x inb rfl inb] at h
  exact h

/-- A load of a box that has just been put reads what was put. -/
theorem load_put (c : Dev nD) (M : Memref sig .tc .vmem s e) {off size : Fin s.rank → ℕ} (inb : ∀ a, off a + size a ≤ s.size a)
    {hl : M.view.LoadsAt (Rect.unit (s := s) off size inb).toLoadRect} {S : Finset M.view.ty.Idx} {x : s.Idx → Elt F e}
    {w : (Rect.unit (s := s) off size inb).shape.Idx → Elt F e}
    {k : ((Rect.unit (s := s) off size inb).shape.Idx → Elt F e) → Prog (TpuEff nD τ sig (Elt F) Λ₀ .tc) α} {Q : α → sProp 𝕄}
    (hS : reg M off size inb ⊆ S) :
    held c M S (put x off size w)
      ⊢ iprop((held c M S (put x off size w) -∗ wp frame (wpE (defs₀ (F := F)) 𝒱₀ (c : Thread nD τ) none) Set.univ (k w) Q)
          -∗ wp frame (wpE (defs₀ (F := F)) 𝒱₀ (c : Thread nD τ) none) Set.univ (.op (.load M (Rect.unit (s := s) off size inb).toLoadRect hl) k) Q) := by
  have h := load_at c M inb (hl := hl) (x := put x off size w) (k := k) (Q := Q) hS
  rw [window_put_same x off size inb w] at h
  exact h

/-- A load of the whole of a buffer reads the vector. -/
theorem load_full (c : Dev nD) (M : Memref sig .tc .vmem s e) {off : Fin s.rank → ℕ} (inb : ∀ a, off a + s.size a ≤ s.size a)
    {hl : M.view.LoadsAt (Rect.unit (s := s) off s.size inb).toLoadRect} {S : Finset M.view.ty.Idx} {x : s.Idx → Elt F e}
    {k : ((Rect.unit (s := s) off s.size inb).shape.Idx → Elt F e) → Prog (TpuEff nD τ sig (Elt F) Λ₀ .tc) α} {Q : α → sProp 𝕄}
    (hS : reg M off s.size inb ⊆ S) :
    held c M S x
      ⊢ iprop((held c M S x -∗ wp frame (wpE (defs₀ (F := F)) 𝒱₀ (c : Thread nD τ) none) Set.univ (k x) Q)
          -∗ wp frame (wpE (defs₀ (F := F)) 𝒱₀ (c : Thread nD τ) none) Set.univ (.op (.load M (Rect.unit (s := s) off s.size inb).toLoadRect hl) k) Q) := by
  have h := wp_load (defs := defs₀ (F := F)) (Γ := []) 𝒱₀ (c : Thread nD τ) none Set.univ (m := M) (hl := hl) (k := k) (Q := Q)
    (q := fullShare) (f := M.view.rep x) (S := S) hS
  rw [View.readAt_rep_full M.view x inb] at h
  exact h

/-- A buffer written with a vector over a box holds the vector that had that box put into it. -/
theorem write_rep (M : Memref sig .tc .vmem s e) (hM : M.IsWhole) {off size : Fin s.rank → ℕ} (inb : ∀ a, off a + size a ≤ s.size a)
    (x : s.Idx → Elt F e) (w : (Rect.unit (s := s) off size inb).shape.Idx → Elt F e) :
    (M.access (Rect.unit (s := s) off size inb)).write (Elt F) (M.view.rep x) w Finset.univ = M.view.rep (put x off size w) := by
  funext i
  have hi : i ∈ M.view.set := by rw [Memref.IsWhole.set_eq_univ hM]; exact Finset.mem_univ _
  obtain ⟨j, -, rfl⟩ := Finset.mem_map.1 hi
  have h := View.read_writes_rep_unit (Val := Elt F) M.view x inb w rfl
  have h2 := congrFun h j
  refine View.eq_of_read_eq (v := M.view) ?_
  rw [View.read_rep]
  exact h2

/-- A store over a box leaves the vector with the stored values put over that box. -/
theorem store_at (c : Dev nD) (M : Memref sig .tc .vmem s e) (hM : M.IsWhole) {off size : Fin s.rank → ℕ} (inb : ∀ a, off a + size a ≤ s.size a)
    {w : (Rect.unit (s := s) off size inb).shape.Idx → Elt F e} {hx : (M.access (Rect.unit (s := s) off size inb)).Stores Finset.univ}
    {hm : (Finset.univ : Finset (Rect.unit (s := s) off size inb).shape.Idx) = Finset.univ ∨ ∀ a, (Rect.unit (s := s) off size inb).stride a = 1}
    {S : Finset M.view.ty.Idx} {x : s.Idx → Elt F e}
    {k : PUnit → Prog (TpuEff nD τ sig (Elt F) Λ₀ .tc) α} {Q : α → sProp 𝕄}
    (hS : reg M off size inb ⊆ S) :
    held c M S x
      ⊢ iprop((held c M S (put x off size w) -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit (s := s) off size inb) w Finset.univ hx hm) k) Q) := by
  have h := wp_store (defs := defs₀ (F := F)) (Γ := []) 𝒱₀ (c : Thread nD τ) none Set.univ (m := M) (r := Rect.unit (s := s) off size inb) (w := w) (Mk := Finset.univ)
    (hx := hx) (hm := hm) (k := k) (Q := Q) (f := M.view.rep x) (S := S)
    (by rw [show (M.access (Rect.unit (s := s) off size inb)).setOn Finset.univ = (M.view.slice (Rect.unit (s := s) off size inb)).set from rfl, View.set_slice]; exact hS)
  rw [write_rep M hM inb x w] at h
  exact h

end Steps

section Copies

variable {s s' : Shape} {e : EltTy}

/-- The elements of a squeezed slice are those of its box. -/
theorem set_piece (M : Memref sig .tc .vmem s e) (r : Rect s) (h : ∀ a, r.stride a = 1) (hs : r.shape.Squeezes s') :
    ((M.slice r h).squeeze s' hs).view.set = M.view.setOn r.set := by
  show ((M.view.slice r).reshape s' hs.numel_eq).set = _
  rw [View.set_reshape, View.set_slice]; rfl

/-- A copy of a box of one buffer onto the same box of another leaves there the values of the source's vector. -/
theorem landed_piece (M M' : Memref sig .tc .vmem s e) (r : Rect s) (h : ∀ a, r.stride a = 1) (hs : r.shape.Squeezes s')
    (x : s.Idx → Elt F e) (fd : M'.view.ty.Contents (Elt F)) (i : M'.view.ty.Idx) (hi : i ∈ M'.view.setOn r.set) :
    ((M'.slice r h).squeeze s' hs).view.write (Elt F) fd (((M.slice r h).squeeze s' hs).view.read (Elt F) (M.view.rep x)) Finset.univ i
      = M'.view.rep x i := by
  rw [← set_piece M' r h hs] at hi
  obtain ⟨z, -, rfl⟩ := Finset.mem_map.1 hi
  refine View.eq_of_read_eq (v := ((M'.slice r h).squeeze s' hs).view) ?_
  rw [View.read_write_univ]
  show M.view.read (Elt F) (M.view.rep x) (r.emb (Shape.reshapeEquiv hs.numel_eq z)) = M'.view.read (Elt F) (M'.view.rep x) (r.emb (Shape.reshapeEquiv hs.numel_eq z))
  rw [View.read_rep, View.read_rep]

/-- A copy of a box of one buffer onto the whole of another leaves there the box's window of the source's vector. -/
theorem landed_whole (M : Memref sig .tc .vmem s e) {off size : Fin s.rank → ℕ} (inb : ∀ a, off a + size a ≤ s.size a)
    (M' : Memref sig .tc .vmem (Rect.unit (s := s) off size inb).shape e)
    (h : ∀ a, (Rect.unit (s := s) off size inb).stride a = 1)
    (x : s.Idx → Elt F e) (fd : M'.view.ty.Contents (Elt F)) (i : M'.view.ty.Idx) (hi : i ∈ M'.view.set) :
    M'.view.write (Elt F) fd ((M.slice (Rect.unit (s := s) off size inb) h).view.read (Elt F) (M.view.rep x)) Finset.univ i
      = M'.view.rep (window x off size inb) i := by
  obtain ⟨z, -, rfl⟩ := Finset.mem_map.1 hi
  refine View.eq_of_read_eq (v := M'.view) ?_
  rw [View.read_write_univ, View.read_rep]
  show M.view.read (Elt F) (M.view.rep x) ((Rect.unit (s := s) off size inb).emb z) = _
  rw [View.read_rep]; rfl

end Copies

end Cert.Cube

end
-- ==== Proof.Contents.lean ====
/-
# What the buffers hold

The eight devices are the corners of a cube; `peer l c` is the corner across link `l`. From the devices' blocks `A c` (columns of the left
matrix) and `B c` (rows of the right matrix) this file names, for every copy `t` of the fifteen that a device makes, the vector
`xt` that its source buffer holds when it is sent, and the vector `outAt` that the result buffer holds in the end.
-/
module

public import proofs.«01_k».proof.Proof.Held

@[expose] public section

noncomputable section

namespace Cert.Cube

open Cert.KernelIdeal Cert.KernelIdeal.Gen

open Idealize.ShloMosaic
open Idealize.ShloMosaic.TcCoe
open Idealize.ShloMosaic.VecWindow

variable {F : FTy → Type} [FloatOps F]

/-- The neighbour of device `c` across link `l` of the cube. -/
def peer (l : Fin 3) (c : Dev nD) : Dev nD := ⟨(c.val ^^^ (match l with | 0 => 1 | 1 => 3 | 2 => 4)) % 8, Nat.mod_lt _ (by decide)⟩

theorem peer_peer : ∀ (l : Fin 3) (c : Dev nD), peer l (peer l c) = c := by decide +kernel

/-- Some vector: what a buffer holds where nothing has been said of it. -/
def junk {s : Shape} {e : EltTy} : s.Idx → Elt F e := fun _ => Classical.arbitrary _

variable (A : Dev nD → Vec F S2048x1024 .bf16) (B : Dev nD → Vec F S1024x2048 .bf16)

/-- The row block of its `A` that device `c` loads at the kernel's offset number 1. -/
abbrev a1 (c : Dev nD) : Vec F S256x1024 .bf16 := window (A c) (k0_off1 c) S256x1024.size (k0_off1_inb c)
/-- The row block of its `A` that device `c` loads at the kernel's offset number 2. -/
abbrev a2 (c : Dev nD) : Vec F S256x1024 .bf16 := window (A c) (k0_off2 c) S256x1024.size (k0_off2_inb c)
/-- The row block of its `A` that device `c` loads at the kernel's offset number 3. -/
abbrev a3 (c : Dev nD) : Vec F S256x1024 .bf16 := window (A c) (k0_off3 c) S256x1024.size (k0_off3_inb c)
/-- The row block of its `A` that device `c` loads at the kernel's offset number 4. -/
abbrev a4 (c : Dev nD) : Vec F S256x1024 .bf16 := window (A c) (k0_off4 c) S256x1024.size (k0_off4_inb c)
/-- The row block of its `A` that device `c` loads at the kernel's offset number 5. -/
abbrev a5 (c : Dev nD) : Vec F S256x1024 .bf16 := window (A c) (k0_off5 c) S256x1024.size (k0_off5_inb c)
/-- The row block of its `A` that device `c` loads at the kernel's offset number 6. -/
abbrev a6 (c : Dev nD) : Vec F S256x1024 .bf16 := window (A c) (k0_off6 c) S256x1024.size (k0_off6_inb c)
/-- The row block of its `A` that device `c` loads at the kernel's offset number 7. -/
abbrev a7 (c : Dev nD) : Vec F S256x1024 .bf16 := window (A c) (k0_off7 c) S256x1024.size (k0_off7_inb c)
/-- The row block of its `A` that device `c` loads at the kernel's offset number 8. -/
abbrev a8 (c : Dev nD) : Vec F S256x1024 .bf16 := window (A c) (k0_off8 c) S256x1024.size (k0_off8_inb c)

/-! ## First phase: the three products sent to the direct neighbours -/

/-- Copy 0: the first 768 columns, along link 0. -/
abbrev w0 (c : Dev nD) : Vec F S256x768 .bf16 := k0_pay2 (a1 A c) (window (B c) ![0, 0] S1024x768.size inb_S1024x2048_S1024x768_0_0)
abbrev x0 (c : Dev nD) : Vec F S256x2048 .bf16 := put junk ![0, 0] S256x768.size (w0 A B c)
/-- Copy 1: the next 768 columns, along link 1. -/
abbrev w1 (c : Dev nD) : Vec F S256x768 .bf16 := k0_pay4 (a1 A c) (window (B c) ![0, 768] S1024x768.size inb_S1024x2048_S1024x768_0_768)
abbrev x1 (c : Dev nD) : Vec F S256x2048 .bf16 := put junk ![0, 768] S256x768.size (w1 A B c)
/-- Copy 2: the last 512 columns, along link 2. -/
abbrev w2 (c : Dev nD) : Vec F S256x512 .bf16 := k0_pay6 (a1 A c) (window (B c) ![0, 1536] S1024x512.size inb_S1024x2048_S1024x512_0_1536)
abbrev x2 (c : Dev nD) : Vec F S256x2048 .bf16 := put junk ![0, 1536] S256x512.size (w2 A B c)

/-! ## Second phase: each link carries a row of products, some with what the first phase brought added -/

/-- Copy 3: row 0, columns from 0 to 1536, along link 0. -/
abbrev w3 (c : Dev nD) : Vec F S1x256x1536 .bf16 := k0_pay7 (a2 A c) (window (B c) ![0, 0] S1024x1536.size inb_S1024x2048_S1024x1536_0_0)
abbrev x3 (c : Dev nD) : Vec F S3x256x2048 .bf16 := put junk ![0, 0, 0] S1x256x1536.size (w3 A B c)
/-- Copy 4: row 0, columns from 1536 on, along link 0, with what copy 2 brought added. -/
abbrev w4 (c : Dev nD) : Vec F S1x256x512 .bf16 := k0_pay11 (k0_pay10 (a2 A c) (window (B c) ![0, 1536] S1024x512.size inb_S1024x2048_S1024x512_0_1536))
    (window (x2 A B (peer 2 c)) ![0, 1536] S256x512.size inb_S256x2048_S256x512_0_1536)
abbrev x4 (c : Dev nD) : Vec F S3x256x2048 .bf16 := put junk ![0, 0, 1536] S1x256x512.size (w4 A B c)
/-- Copy 5: row 1, columns from 768 on, along link 1. -/
abbrev w5 (c : Dev nD) : Vec F S1x256x1280 .bf16 := k0_pay8 (a3 A c) (window (B c) ![0, 768] S1024x1280.size inb_S1024x2048_S1024x1280_0_768)
abbrev x5 (c : Dev nD) : Vec F S3x256x2048 .bf16 := put junk ![1, 0, 768] S1x256x1280.size (w5 A B c)
/-- Copy 6: row 1, columns up to 768, along link 1, with what copy 0 brought added. -/
abbrev w6 (c : Dev nD) : Vec F S1x256x768 .bf16 := k0_pay13 (k0_pay12 (a3 A c) (window (B c) ![0, 0] S1024x768.size inb_S1024x2048_S1024x768_0_0))
    (window (x0 A B (peer 0 c)) ![0, 0] S256x768.size inb_S256x2048_S256x768_0_0)
abbrev x6 (c : Dev nD) : Vec F S3x256x2048 .bf16 := put junk ![1, 0, 0] S1x256x768.size (w6 A B c)
/-- Copy 7: row 2, columns up to 768, along link 2. -/
abbrev w7 (c : Dev nD) : Vec F S1x256x768 .bf16 := k0_pay9 (a4 A c) (window (B c) ![0, 0] S1024x768.size inb_S1024x2048_S1024x768_0_0)
abbrev x7 (c : Dev nD) : Vec F S3x256x2048 .bf16 := put junk ![2, 0, 0] S1x256x768.size (w7 A B c)
/-- Copy 8 before the addition: row 2, columns from 768 on. -/
abbrev w8' (c : Dev nD) : Vec F S1x256x1280 .bf16 := k0_pay15 (k0_pay14 (a4 A c) (window (B c) ![0, 768] S1024x1280.size inb_S1024x2048_S1024x1280_0_768))
abbrev x8' (c : Dev nD) : Vec F S3x256x2048 .bf16 := put junk ![2, 0, 768] S1x256x1280.size (w8' A B c)
/-- Copy 8: row 2, columns from 768 on, along link 2, with what copy 1 brought added to its first 768 columns. -/
abbrev w8 (c : Dev nD) : Vec F S1x256x768 .bf16 := k0_pay16 (window (x8' A B c) ![2, 0, 768] S1x256x768.size inb_S3x256x2048_S1x256x768_2_0_768)
    (window (x1 A B (peer 1 c)) ![0, 768] S256x768.size inb_S256x2048_S256x768_0_768)
abbrev x8 (c : Dev nD) : Vec F S3x256x2048 .bf16 := put (x8' A B c) ![2, 0, 768] S1x256x768.size (w8 A B c)

/-! ## Third phase: a full row per link, with what the second phase brought added -/

/-- Row 0 before any addition. -/
abbrev q0 (c : Dev nD) : Vec F S3x256x2048 .bf16 := put junk ![0, 0, 0] S1x256x2048.size (k0_pay19 (k0_pay18 (a6 A c) (B c)))
/-- Row 1 before any addition. -/
abbrev q1 (c : Dev nD) : Vec F S3x256x2048 .bf16 := put junk ![1, 0, 0] S1x256x2048.size (k0_pay20 (a7 A c) (B c))
/-- Row 2 before any addition. -/
abbrev q2 (c : Dev nD) : Vec F S3x256x2048 .bf16 := put junk ![2, 0, 0] S1x256x2048.size (k0_pay17 (a5 A c) (B c))
/-- Copy 9: row 0, columns up to 768, along link 0. -/
abbrev w9 (c : Dev nD) : Vec F S1x256x768 .bf16 := k0_pay22 (window (q0 A B c) ![0, 0, 0] S1x256x768.size inb_S3x256x2048_S1x256x768_0_0_0) (window (x7 A B (peer 2 c)) ![2, 0, 0] S1x256x768.size inb_S3x256x2048_S1x256x768_2_0_0)
abbrev x9 (c : Dev nD) : Vec F S3x256x2048 .bf16 := put junk ![0, 0, 0] S1x256x768.size (w9 A B c)
/-- Copy 10: row 0, columns from 768 on, along link 0. -/
abbrev w10 (c : Dev nD) : Vec F S1x256x1280 .bf16 := k0_pay26 (window (q0 A B c) ![0, 0, 768] S1x256x1280.size inb_S3x256x2048_S1x256x1280_0_0_768) (window (x8 A B (peer 2 c)) ![2, 0, 768] S1x256x1280.size inb_S3x256x2048_S1x256x1280_2_0_768)
abbrev x10 (c : Dev nD) : Vec F S3x256x2048 .bf16 := put junk ![0, 0, 768] S1x256x1280.size (w10 A B c)
/-- Copy 11: row 1, columns up to 1536, along link 1. -/
abbrev w11 (c : Dev nD) : Vec F S1x256x1536 .bf16 := k0_pay24 (k0_pay23 (window (q1 A B c) ![1, 0, 0] S1x256x1536.size inb_S3x256x2048_S1x256x1536_1_0_0)) (window (x3 A B (peer 0 c)) ![0, 0, 0] S1x256x1536.size inb_S3x256x2048_S1x256x1536_0_0_0)
abbrev x11 (c : Dev nD) : Vec F S3x256x2048 .bf16 := put junk ![1, 0, 0] S1x256x1536.size (w11 A B c)
/-- Copy 12: row 1, columns from 1536 on, along link 1. -/
abbrev w12 (c : Dev nD) : Vec F S1x256x512 .bf16 := k0_pay27 (window (q1 A B c) ![1, 0, 1536] S1x256x512.size inb_S3x256x2048_S1x256x512_1_0_1536) (window (x4 A B (peer 0 c)) ![0, 0, 1536] S1x256x512.size inb_S3x256x2048_S1x256x512_0_0_1536)
abbrev x12 (c : Dev nD) : Vec F S3x256x2048 .bf16 := put junk ![1, 0, 1536] S1x256x512.size (w12 A B c)
/-- Copy 13: row 2, columns from 768 on, along link 2. -/
abbrev w13 (c : Dev nD) : Vec F S1x256x1280 .bf16 := k0_pay21 (window (q2 A B c) ![2, 0, 768] S1x256x1280.size inb_S3x256x2048_S1x256x1280_2_0_768) (window (x5 A B (peer 1 c)) ![1, 0, 768] S1x256x1280.size inb_S3x256x2048_S1x256x1280_1_0_768)
abbrev x13 (c : Dev nD) : Vec F S3x256x2048 .bf16 := put junk ![2, 0, 768] S1x256x1280.size (w13 A B c)
/-- Copy 14: row 2, columns up to 768, along link 2. -/
abbrev w14 (c : Dev nD) : Vec F S1x256x768 .bf16 := k0_pay25 (window (q2 A B c) ![2, 0, 0] S1x256x768.size inb_S3x256x2048_S1x256x768_2_0_0) (window (x6 A B (peer 1 c)) ![1, 0, 0] S1x256x768.size inb_S3x256x2048_S1x256x768_1_0_0)
abbrev x14 (c : Dev nD) : Vec F S3x256x2048 .bf16 := put junk ![2, 0, 0] S1x256x768.size (w14 A B c)

/-! ## The result -/

/-- The device's own product for its own rows. -/
abbrev own (c : Dev nD) : FVec F S256x2048 .f32 := k0_pay28 (a8 A c) (B c)
/-- The result's columns up to 768. -/
abbrev o0 (c : Dev nD) : FVec F S256x768 .f32 := k0_pay30 (k0_pay29 (own A B c) (window (x14 A B (peer 2 c)) ![2, 0, 0] S1x256x768.size inb_S3x256x2048_S1x256x768_2_0_0)
    (window (x9 A B (peer 0 c)) ![0, 0, 0] S1x256x768.size inb_S3x256x2048_S1x256x768_0_0_0)) (window (x11 A B (peer 1 c)) ![1, 0, 0] S1x256x768.size inb_S3x256x2048_S1x256x768_1_0_0)
/-- The result's columns from 768 to 1536. -/
abbrev o1 (c : Dev nD) : FVec F S256x768 .f32 := k0_pay31 (own A B c) (window (x13 A B (peer 2 c)) ![2, 0, 768] S1x256x768.size inb_S3x256x2048_S1x256x768_2_0_768)
    (window (x10 A B (peer 0 c)) ![0, 0, 768] S1x256x768.size inb_S3x256x2048_S1x256x768_0_0_768) (window (x11 A B (peer 1 c)) ![1, 0, 768] S1x256x768.size inb_S3x256x2048_S1x256x768_1_0_768)
/-- The result's columns from 1536 on. -/
abbrev o2 (c : Dev nD) : FVec F S256x512 .f32 := k0_pay32 (own A B c) (window (x13 A B (peer 2 c)) ![2, 0, 1536] S1x256x512.size inb_S3x256x2048_S1x256x512_2_0_1536)
    (window (x10 A B (peer 0 c)) ![0, 0, 1536] S1x256x512.size inb_S3x256x2048_S1x256x512_0_0_1536) (window (x12 A B (peer 1 c)) ![1, 0, 1536] S1x256x512.size inb_S3x256x2048_S1x256x512_1_0_1536)
/-- A vector with the three pieces of the result put into it. -/
abbrev outOn (c : Dev nD) (z : Vec F S256x2048 .f32) : Vec F S256x2048 .f32 :=
  put (put (put z ![0, 0] S256x768.size (o0 A B c)) ![0, 768] S256x768.size (o1 A B c)) ![0, 1536] S256x512.size (o2 A B c)
/-- What device `c`'s result buffer holds in the end. -/
def outAt (c : Dev nD) : Vec F S256x2048 .f32 := outOn A B c junk

end Cert.Cube

end
-- ==== Proof.Schedule.lean ====
/-
# Who signals whom, how much, and what is handed over

Each device owns 31 semaphore cells: its barrier cell, and for each of its fifteen copies a send cell and a receive cell. There is one round.

* The barrier cell of `c` gets one unit from each neighbour `peer l c`; with it that neighbour hands over the parts of its receive buffers
  into which `c` copies along link `l` (`barPay`). `c` waits for the three units before its first copy.
* Copy `t` credits the sender's send cell `t` with the source region (`sendPay`), and the receive cell `t` of the neighbour across link
  `lk t` with the target region, which now holds the sender's vector (`recvPay`). Each is waited for once, by the owner of the cell.
* The copies are issued in the order `ord`. A device waits on its barrier owing all fifteen; on a receive cell of the second phase owing only
  copies of the third; so the levels barrier < first phase < second phase < third phase order all waits.
-/
module

public import proofs.«01_k».proof.Proof.Contents

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-! ## The buffers -/

abbrev M0 : Memref sig .tc .vmem S2048x1024 .bf16 := Memref.whole cc0_stg0_0
abbrev M1 : Memref sig .tc .vmem S1024x2048 .bf16 := Memref.whole cc0_stg1_0
abbrev M2 : Memref sig .tc .vmem S256x2048 .f32 := Memref.whole cc0_stg2_0
abbrev M3 : Memref sig .tc .vmem S1024x2048 .bf16 := Memref.whole cc0_scratch0
abbrev M4 : Memref sig .tc .vmem S256x2048 .bf16 := Memref.whole cc0_scratch1
abbrev M5 : Memref sig .tc .vmem S256x768 .bf16 := Memref.whole cc0_scratch2
abbrev M6 : Memref sig .tc .vmem S256x768 .bf16 := Memref.whole cc0_scratch3
abbrev M7 : Memref sig .tc .vmem S256x512 .bf16 := Memref.whole cc0_scratch4
abbrev M8 : Memref sig .tc .vmem S3x256x2048 .bf16 := Memref.whole cc0_scratch5
abbrev M9 : Memref sig .tc .vmem S3x256x2048 .bf16 := Memref.whole cc0_scratch6
abbrev M10 : Memref sig .tc .vmem S3x256x2048 .bf16 := Memref.whole cc0_scratch7
abbrev M11 : Memref sig .tc .vmem S3x256x2048 .bf16 := Memref.whole cc0_scratch8

/-! ## The cells -/

/-- The link copy `t` goes along. -/
def lk : Fin 15 → Fin 3
  | 0 => 0
  | 1 => 1
  | 2 => 2
  | 3 => 0
  | 4 => 0
  | 5 => 1
  | 6 => 1
  | 7 => 2
  | 8 => 2
  | 9 => 0
  | 10 => 0
  | 11 => 1
  | 12 => 1
  | 13 => 2
  | 14 => 2

/-- The number of columns copy `t` moves. -/
def cols : Fin 15 → ℕ
  | 0 => 768
  | 1 => 768
  | 2 => 512
  | 3 => 1536
  | 4 => 512
  | 5 => 1280
  | 6 => 768
  | 7 => 768
  | 8 => 1280
  | 9 => 768
  | 10 => 1280
  | 11 => 1536
  | 12 => 512
  | 13 => 1280
  | 14 => 768

/-- The credit of copy `t`: its bytes, in units of 32. -/
def amt (t : Fin 15) : ℕ := 16 * cols t

theorem amt_pos : ∀ t, 0 < amt t := by decide

/-- The order in which a device issues its copies. -/
def ord : List (Fin 15) := [0, 1, 2, 3, 5, 7, 4, 6, 8, 13, 9, 11, 14, 10, 12]

/-- What a semaphore is for. -/
inductive Role | other | bar | snd (t : Fin 15) | rcv (t : Fin 15)
  deriving DecidableEq

/-- The runtime's barrier semaphore. -/
abbrev barS : Sem sig := (SemArray.scalar (sig.barrier 0 rfl) : Sems sig S_).sem

/-- The send semaphore and the receive semaphore of copy `t`. -/
def sndS (t : Fin 15) : DmaSem sig :=
  if h : t.val < 3 then ⟨t.val + 3, by show _ < 33; omega⟩ else if h' : t.val < 9 then ⟨t.val + 6, by show _ < 33; omega⟩ else ⟨t.val + 12, by show _ < 33; omega⟩
def rcvS (t : Fin 15) : DmaSem sig :=
  if h : t.val < 3 then ⟨t.val + 6, by show _ < 33; omega⟩ else if h' : t.val < 9 then ⟨t.val + 12, by show _ < 33; omega⟩ else ⟨t.val + 18, by show _ < 33; omega⟩

/-- The role of the DMA semaphore of number `n`. -/
def roleNo (n : ℕ) : Role :=
  if n < 3 then .other else if n < 6 then .snd (Fin.ofNat 15 (n - 3)) else if n < 9 then .rcv (Fin.ofNat 15 (n - 6))
  else if n < 15 then .snd (Fin.ofNat 15 (n - 6)) else if n < 21 then .rcv (Fin.ofNat 15 (n - 12))
  else if n < 27 then .snd (Fin.ofNat 15 (n - 12)) else .rcv (Fin.ofNat 15 (n - 18))

def role : SemLoc sig → Role
  | .reg _ => .bar
  | .dma q => roleNo q.val

theorem role_snd : ∀ t, role (.dma (sndS t)) = .snd t := by decide +kernel
theorem role_rcv : ∀ t, role (.dma (rcvS t)) = .rcv t := by decide +kernel

abbrev barCell (c : Dev nD) : GSem nD τ sig := ((c : Thread nD τ), .reg barS)
abbrev sndCell (t : Fin 15) (c : Dev nD) : GSem nD τ sig := ((c : Thread nD τ), .dma (sndS t))
abbrev rcvCell (t : Fin 15) (c : Dev nD) : GSem nD τ sig := ((c : Thread nD τ), .dma (rcvS t))

/-! ## The payloads -/

section Payloads

variable (A : Dev nD → Vec F S2048x1024 .bf16) (B : Dev nD → Vec F S1024x2048 .bf16)

/-- The source region of copy `t` on device `c`, holding what is sent. -/
def sendPay (t : Fin 15) (c : Dev nD) : sProp 𝕄 := match t with
  | 0 => held c M4 (reg M4 ![0, 0] S256x768.size inb_S256x2048_S256x768_0_0) (x0 A B c)
  | 1 => held c M4 (reg M4 ![0, 768] S256x768.size inb_S256x2048_S256x768_0_768) (x1 A B c)
  | 2 => held c M4 (reg M4 ![0, 1536] S256x512.size inb_S256x2048_S256x512_0_1536) (x2 A B c)
  | 3 => held c M8 (reg M8 ![0, 0, 0] S1x256x1536.size inb_S3x256x2048_S1x256x1536_0_0_0) (x3 A B c)
  | 4 => held c M8 (reg M8 ![0, 0, 1536] S1x256x512.size inb_S3x256x2048_S1x256x512_0_0_1536) (x4 A B c)
  | 5 => held c M8 (reg M8 ![1, 0, 768] S1x256x1280.size inb_S3x256x2048_S1x256x1280_1_0_768) (x5 A B c)
  | 6 => held c M8 (reg M8 ![1, 0, 0] S1x256x768.size inb_S3x256x2048_S1x256x768_1_0_0) (x6 A B c)
  | 7 => held c M8 (reg M8 ![2, 0, 0] S1x256x768.size inb_S3x256x2048_S1x256x768_2_0_0) (x7 A B c)
  | 8 => held c M8 (reg M8 ![2, 0, 768] S1x256x1280.size inb_S3x256x2048_S1x256x1280_2_0_768) (x8 A B c)
  | 9 => held c M10 (reg M10 ![0, 0, 0] S1x256x768.size inb_S3x256x2048_S1x256x768_0_0_0) (x9 A B c)
  | 10 => held c M10 (reg M10 ![0, 0, 768] S1x256x1280.size inb_S3x256x2048_S1x256x1280_0_0_768) (x10 A B c)
  | 11 => held c M10 (reg M10 ![1, 0, 0] S1x256x1536.size inb_S3x256x2048_S1x256x1536_1_0_0) (x11 A B c)
  | 12 => held c M10 (reg M10 ![1, 0, 1536] S1x256x512.size inb_S3x256x2048_S1x256x512_1_0_1536) (x12 A B c)
  | 13 => held c M10 (reg M10 ![2, 0, 768] S1x256x1280.size inb_S3x256x2048_S1x256x1280_2_0_768) (x13 A B c)
  | 14 => held c M10 (reg M10 ![2, 0, 0] S1x256x768.size inb_S3x256x2048_S1x256x768_2_0_0) (x14 A B c)

/-- The target region of copy `t` on device `c`, holding what device `s` sends. -/
def landPay (t : Fin 15) (s c : Dev nD) : sProp 𝕄 := match t with
  | 0 => held c M5 (M5.view.set) (window (x0 A B s) ![0, 0] S256x768.size inb_S256x2048_S256x768_0_0)
  | 1 => held c M6 (M6.view.set) (window (x1 A B s) ![0, 768] S256x768.size inb_S256x2048_S256x768_0_768)
  | 2 => held c M7 (M7.view.set) (window (x2 A B s) ![0, 1536] S256x512.size inb_S256x2048_S256x512_0_1536)
  | 3 => held c M9 (reg M9 ![0, 0, 0] S1x256x1536.size inb_S3x256x2048_S1x256x1536_0_0_0) (x3 A B s)
  | 4 => held c M9 (reg M9 ![0, 0, 1536] S1x256x512.size inb_S3x256x2048_S1x256x512_0_0_1536) (x4 A B s)
  | 5 => held c M9 (reg M9 ![1, 0, 768] S1x256x1280.size inb_S3x256x2048_S1x256x1280_1_0_768) (x5 A B s)
  | 6 => held c M9 (reg M9 ![1, 0, 0] S1x256x768.size inb_S3x256x2048_S1x256x768_1_0_0) (x6 A B s)
  | 7 => held c M9 (reg M9 ![2, 0, 0] S1x256x768.size inb_S3x256x2048_S1x256x768_2_0_0) (x7 A B s)
  | 8 => held c M9 (reg M9 ![2, 0, 768] S1x256x1280.size inb_S3x256x2048_S1x256x1280_2_0_768) (x8 A B s)
  | 9 => held c M11 (reg M11 ![0, 0, 0] S1x256x768.size inb_S3x256x2048_S1x256x768_0_0_0) (x9 A B s)
  | 10 => held c M11 (reg M11 ![0, 0, 768] S1x256x1280.size inb_S3x256x2048_S1x256x1280_0_0_768) (x10 A B s)
  | 11 => held c M11 (reg M11 ![1, 0, 0] S1x256x1536.size inb_S3x256x2048_S1x256x1536_1_0_0) (x11 A B s)
  | 12 => held c M11 (reg M11 ![1, 0, 1536] S1x256x512.size inb_S3x256x2048_S1x256x512_1_0_1536) (x12 A B s)
  | 13 => held c M11 (reg M11 ![2, 0, 768] S1x256x1280.size inb_S3x256x2048_S1x256x1280_2_0_768) (x13 A B s)
  | 14 => held c M11 (reg M11 ![2, 0, 0] S1x256x768.size inb_S3x256x2048_S1x256x768_2_0_0) (x14 A B s)

/-- The target region of copy `t` on device `c`, holding what the neighbour sent. -/
def recvPay (t : Fin 15) (c : Dev nD) : sProp 𝕄 := landPay A B t (peer (lk t) c) c

/-- The target region of copy `t` on device `c`, with any contents. -/
def hole (t : Fin 15) (c : Dev nD) : sProp 𝕄 := match t with
  | 0 => iprop(∃ x, held (F := F) c M5 (M5.view.set) x)
  | 1 => iprop(∃ x, held (F := F) c M6 (M6.view.set) x)
  | 2 => iprop(∃ x, held (F := F) c M7 (M7.view.set) x)
  | 3 => iprop(∃ x, held (F := F) c M9 (reg M9 ![0, 0, 0] S1x256x1536.size inb_S3x256x2048_S1x256x1536_0_0_0) x)
  | 4 => iprop(∃ x, held (F := F) c M9 (reg M9 ![0, 0, 1536] S1x256x512.size inb_S3x256x2048_S1x256x512_0_0_1536) x)
  | 5 => iprop(∃ x, held (F := F) c M9 (reg M9 ![1, 0, 768] S1x256x1280.size inb_S3x256x2048_S1x256x1280_1_0_768) x)
  | 6 => iprop(∃ x, held (F := F) c M9 (reg M9 ![1, 0, 0] S1x256x768.size inb_S3x256x2048_S1x256x768_1_0_0) x)
  | 7 => iprop(∃ x, held (F := F) c M9 (reg M9 ![2, 0, 0] S1x256x768.size inb_S3x256x2048_S1x256x768_2_0_0) x)
  | 8 => iprop(∃ x, held (F := F) c M9 (reg M9 ![2, 0, 768] S1x256x1280.size inb_S3x256x2048_S1x256x1280_2_0_768) x)
  | 9 => iprop(∃ x, held (F := F) c M11 (reg M11 ![0, 0, 0] S1x256x768.size inb_S3x256x2048_S1x256x768_0_0_0) x)
  | 10 => iprop(∃ x, held (F := F) c M11 (reg M11 ![0, 0, 768] S1x256x1280.size inb_S3x256x2048_S1x256x1280_0_0_768) x)
  | 11 => iprop(∃ x, held (F := F) c M11 (reg M11 ![1, 0, 0] S1x256x1536.size inb_S3x256x2048_S1x256x1536_1_0_0) x)
  | 12 => iprop(∃ x, held (F := F) c M11 (reg M11 ![1, 0, 1536] S1x256x512.size inb_S3x256x2048_S1x256x512_1_0_1536) x)
  | 13 => iprop(∃ x, held (F := F) c M11 (reg M11 ![2, 0, 768] S1x256x1280.size inb_S3x256x2048_S1x256x1280_2_0_768) x)
  | 14 => iprop(∃ x, held (F := F) c M11 (reg M11 ![2, 0, 0] S1x256x768.size inb_S3x256x2048_S1x256x768_2_0_0) x)

/-- The target regions on device `c` of the copies along link `l`: what `c` hands its neighbour across `l` before anything is sent. -/
def holes (l : Fin 3) (c : Dev nD) : sProp 𝕄 := match l with
  | 0 => iprop(hole 0 c ∗ hole 3 c ∗ hole 4 c ∗ hole 9 c ∗ hole 10 c)
  | 1 => iprop(hole 1 c ∗ hole 5 c ∗ hole 6 c ∗ hole 11 c ∗ hole 12 c)
  | 2 => iprop(hole 2 c ∗ hole 7 c ∗ hole 8 c ∗ hole 13 c ∗ hole 14 c)

instance held_storable (c : Dev nD) {sp : Space} {s : Shape} {e : EltTy} (M : Memref sig .tc sp s e) (S : Finset M.view.ty.Idx) (x : s.Idx → Elt F e) :
    BI.Storable (upEmb : UEmb _ 𝕄) (held c M S x) := by unfold held; infer_instance

instance sendPay_storable (t : Fin 15) (c : Dev nD) : BI.Storable (upEmb : UEmb _ 𝕄) (sendPay A B t c) := by
  unfold sendPay; split <;> infer_instance
instance recvPay_storable (t : Fin 15) (c : Dev nD) : BI.Storable (upEmb : UEmb _ 𝕄) (recvPay A B t c) := by
  unfold recvPay landPay; split <;> infer_instance
instance hole_storable (t : Fin 15) (c : Dev nD) : BI.Storable (upEmb : UEmb _ 𝕄) (hole (F := F) t c) := by
  unfold hole; split <;> infer_instance
instance holes_storable (l : Fin 3) (c : Dev nD) : BI.Storable (upEmb : UEmb _ 𝕄) (holes (F := F) l c) := by
  unfold holes; split <;> infer_instance

/-! ## The schedule -/

/-- One round. A barrier cell has one duty per link, of one unit; a copy's cell has one duty, of the copy's credit. -/
def cubeRd : Rounds.Schedule (GSem nD τ sig) (Fin 3) 𝕄 where
  duties g r := if r = 0 ∧ g.1.2 = .tc then (match role g.2 with | .other => ∅ | .bar => Finset.univ | .snd _ => {0} | .rcv _ => {0}) else ∅
  unitless _ := False
  amount g _ _ := match role g.2 with | .other => 1 | .bar => 1 | .snd t => amt t | .rcv t => amt t
  payload g _ d := match role g.2 with
    | .other => iprop(emp) | .bar => holes d (peer d g.1.1) | .snd t => sendPay A B t g.1.1 | .rcv t => recvPay A B t g.1.1
  amount_pos g _ _ _ := by
    split
    · exact Nat.one_pos
    · exact Nat.one_pos
    · exact amt_pos _
    · exact amt_pos _

instance cubeRd_payload_storable (g : GSem nD τ sig) (r : ℕ) (d : Fin 3) :
    BI.Storable (upEmb : UEmb _ 𝕄) ((cubeRd A B).payload g r d) := by
  show BI.Storable upEmb (match role g.2 with
    | .other => iprop(emp) | .bar => holes d (peer d g.1.1) | .snd t => sendPay A B t g.1.1 | .rcv t => recvPay A B t g.1.1)
  split <;> infer_instance

section Tables
variable (c : Dev nD) (t : Fin 15)

theorem duties_bar : (cubeRd A B).duties (barCell c) 0 = Finset.univ := by
  dsimp only [cubeRd]; rw [if_pos ⟨rfl, rfl⟩]; rfl
theorem duties_snd : (cubeRd A B).duties (sndCell t c) 0 = {0} := by
  dsimp only [cubeRd]; rw [if_pos ⟨rfl, rfl⟩, role_snd]
theorem duties_rcv : (cubeRd A B).duties (rcvCell t c) 0 = {0} := by
  dsimp only [cubeRd]; rw [if_pos ⟨rfl, rfl⟩, role_rcv]
theorem duties_later (g : GSem nD τ sig) : ∀ r, 1 ≤ r → (cubeRd A B).duties g r = ∅ :=
  fun r hr => by dsimp only [cubeRd]; rw [if_neg fun h => by omega]

theorem amount_bar (d : Fin 3) : (cubeRd A B).amount (barCell c) 0 d = 1 := rfl
theorem amount_snd (d : Fin 3) : (cubeRd A B).amount (sndCell t c) 0 d = amt t := by dsimp only [cubeRd]; rw [role_snd]
theorem amount_rcv (d : Fin 3) : (cubeRd A B).amount (rcvCell t c) 0 d = amt t := by dsimp only [cubeRd]; rw [role_rcv]

theorem expect_bar : (cubeRd A B).expect (barCell c) 0 = 3 := by
  unfold Schedule.expect Schedule.amountOf
  rw [duties_bar, Finset.sum_congr rfl fun d _ => amount_bar A B c d, Finset.sum_const, Finset.card_univ, Fintype.card_fin, smul_eq_mul]
theorem expect_snd : (cubeRd A B).expect (sndCell t c) 0 = amt t := by
  unfold Schedule.expect Schedule.amountOf; rw [duties_snd, Finset.sum_singleton, amount_snd]
theorem expect_rcv : (cubeRd A B).expect (rcvCell t c) 0 = amt t := by
  unfold Schedule.expect Schedule.amountOf; rw [duties_rcv, Finset.sum_singleton, amount_rcv]

theorem payload_bar (d : Fin 3) : (cubeRd A B).payload (barCell c) 0 d = holes d (peer d c) := rfl
theorem payload_snd (d : Fin 3) : (cubeRd A B).payload (sndCell t c) 0 d = sendPay A B t c := by dsimp only [cubeRd]; rw [role_snd]
theorem payload_rcv (d : Fin 3) : (cubeRd A B).payload (rcvCell t c) 0 d = recvPay A B t c := by dsimp only [cubeRd]; rw [role_rcv]

/-- What the barrier wait brings: the neighbours' target regions. -/
theorem rest_bar : bigSep ((cubeRd A B).duties (barCell c) 0 \ ∅) (fun d => (cubeRd A B).payload (barCell c) 0 d)
    = iprop(holes 0 (peer 0 c) ∗ holes 1 (peer 1 c) ∗ holes 2 (peer 2 c)) := by
  rw [Finset.sdiff_empty, duties_bar, bigSep_univ_eq_bigSepL [0, 1, 2] (by decide) (by decide)]; rfl
theorem rest_snd : bigSep ((cubeRd A B).duties (sndCell t c) 0 \ ∅) (fun d => (cubeRd A B).payload (sndCell t c) 0 d) = sendPay A B t c := by
  rw [Finset.sdiff_empty, duties_snd, bigSep_singleton, payload_snd]
theorem rest_rcv : bigSep ((cubeRd A B).duties (rcvCell t c) 0 \ ∅) (fun d => (cubeRd A B).payload (rcvCell t c) 0 d) = recvPay A B t c := by
  rw [Finset.sdiff_empty, duties_rcv, bigSep_singleton, payload_rcv]

end Tables

end Payloads

/-! ## What a device owes, and the levels -/

/-- What device `c` owes for the copies of a list: each one's credit at the receiver's cell. -/
def owedL (c : Dev nD) : List (Fin 15) → CellTallies nD τ sig Unit
  | [] => 0
  | t :: l => owedL c l + tallyAt (rcvCell t (peer (lk t) c)) () (amt t)

/-- At launch: all fifteen copies, and one unit to each neighbour's barrier cell. -/
def O₂ (c : Dev nD) : CellTallies nD τ sig Unit := owedL c ord + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅

/-- The phase of copy `t`, from two on. -/
def phase (t : Fin 15) : ℕ := if t.val < 3 then 2 else if t.val < 9 then 3 else 4
/-- Barrier cells at level one, receive cells at their phase, all others at zero. -/
def lvS (s : SemLoc sig) : ℕ := match role s with | .other => 0 | .bar => 1 | .snd _ => 0 | .rcv t => phase t
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_rcv (t : Fin 15) : lvS (.dma (rcvS t)) = phase t := by unfold lvS; rw [role_rcv]

theorem tallyAt_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

theorem owedL_pos {c : Dev nD} {l : List (Fin 15)} {g : GSem nD τ sig} {u : Unit} (h : 0 < owedL c l g u) :
    ∃ t ∈ l, g = rcvCell t (peer (lk t) c) := by
  induction l with
  | nil => exact absurd h (Nat.lt_irrefl 0)
  | cons t l ih =>
    unfold owedL at h
    rw [Pi.add_apply, Finsupp.add_apply] at h
    rcases Nat.eq_zero_or_pos (owedL c l g u) with h0 | h0
    · rw [h0, Nat.zero_add] at h
      exact ⟨t, List.mem_cons_self, tallyAt_pos h⟩
    · obtain ⟨t', ht', e⟩ := ih h0
      exact ⟨t', List.mem_cons_of_mem _ ht', e⟩

theorem O₀_pos {c : Dev nD} {g : GSem nD τ sig} {u : Unit} (h : 0 < O₀ c g u) :
    (∃ t, g = rcvCell t (peer (lk t) c)) ∨ ∃ l, g = barCell (peer l c) := by
  unfold O₀ O₁ O₂ at h
  simp only [Pi.add_apply, Finsupp.add_apply] at h
  by_cases h0 : 0 < owedL c ord g u
  · obtain ⟨t, -, e⟩ := owedL_pos h0; exact Or.inl ⟨t, e⟩
  by_cases h1 : 0 < (tallyAt (barCell (peer 2 c)) () 1 : CellTallies nD τ sig Unit) g u
  · exact Or.inr ⟨2, tallyAt_pos h1⟩
  by_cases h2 : 0 < (tallyAt (barCell (peer 1 c)) () 1 : CellTallies nD τ sig Unit) g u
  · exact Or.inr ⟨1, tallyAt_pos h2⟩
  refine Or.inr ⟨0, tallyAt_pos (n := 1) (u := u) ?_⟩
  omega

/-- A device may wait on a semaphore while it owes copies of later phases only. -/
theorem mayWait_at (c : Dev nD) (sm : SemLoc sig) (l : List (Fin 15)) (h : ∀ t ∈ l, lvS sm < phase t) :
    (levAts L lv : sProp 𝕄) ⊢ MayWait (c : Thread nD τ) sm () (owedL c l) :=
  MayOwe.of_cut (L := L) (lev := lv) (lvS sm) (fun p hp => by rw [Finset.mem_singleton.mp hp, L_tc]; exact Finset.mem_singleton_self _)
    (fun g u hg => by obtain ⟨t, -, rfl⟩ := owedL_pos hg; exact Finset.mem_singleton_self _)
    (fun p hp => by rw [Finset.mem_singleton.mp hp]; exact le_refl _)
    (fun g u hg => by
      obtain ⟨t, ht, rfl⟩ := owedL_pos hg
      show lvS sm < lvS (.dma (rcvS t))
      rw [lvS_rcv]; exact h t ht)

/-- The launch's own transfers are waited for at level zero, owing all or nothing. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨l, rfl⟩ <;> exact Finset.mem_singleton_self _)
      (fun p hp => by rw [Finset.mem_singleton.mp hp]; exact hq.le)
      (fun g u hg => by
        rcases O₀_pos hg with ⟨t, rfl⟩ | ⟨l, rfl⟩
        · show 0 < lvS (.dma (rcvS t))
          rw [lvS_rcv]; unfold phase; split_ifs <;> decide
        · exact Nat.one_pos)
  · rw [MayWait_zero]; iintro -; iempintro

end Cert.Cube

end
-- ==== Proof.Steps.lean ====
/-
# The steps of the protocol

What a device carries for each copy (`Snd` before it is issued, `Sndw` while it is under way, `Rcv` for one that is to arrive), and one lemma
each for: a signal to a neighbour, the barrier wait, issuing a copy, waiting for an arrival, waiting for a copy's own completion.
-/
module

public import proofs.«01_k».proof.Proof.Schedule

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-! ## The cells, numbered -/

/-- A device's thirty copy semaphores, and before them its barrier semaphore. -/
def osem (k : Fin 30) : SemLoc sig := .dma ⟨k.val + 3, by show _ < 33; omega⟩
def csem (k : Fin 31) : SemLoc sig := if h : k.val = 0 then .reg barS else .dma ⟨k.val + 2, by show _ < 33; omega⟩

def kcell (ck : Dev nD × Fin 31) : GSem nD τ sig := ((ck.1 : Thread nD τ), csem ck.2)

def sndNo (t : Fin 15) : Fin 31 := ⟨(sndS t).val - 2, by have : (sndS t).val < 33 := (sndS t).isLt; omega⟩
def rcvNo (t : Fin 15) : Fin 31 := ⟨(rcvS t).val - 2, by have : (rcvS t).val < 33 := (rcvS t).isLt; omega⟩

theorem csem_snd : ∀ t, csem (sndNo t) = .dma (sndS t) := by decide +kernel
theorem csem_rcv : ∀ t, csem (rcvNo t) = .dma (rcvS t) := by decide +kernel

theorem kcell_bar (c : Dev nD) : kcell (c, 0) = barCell c := rfl
theorem kcell_snd (t : Fin 15) (c : Dev nD) : kcell (c, sndNo t) = sndCell t c := by unfold kcell; rw [csem_snd]
theorem kcell_rcv (t : Fin 15) (c : Dev nD) : kcell (c, rcvNo t) = rcvCell t c := by unfold kcell; rw [csem_rcv]

section
variable (A : Dev nD → Vec F S2048x1024 .bf16) (B : Dev nD → Vec F S1024x2048 .bf16) (K : Dev nD × Fin 31 → ℕ)

/-- What every device knows throughout: all cells' invariants, that every cell is in its first round, and the levels. -/
def Env : sProp 𝕄 :=
  iprop(((bigSep Finset.univ fun ck : Dev nD × Fin 31 => cellInv ER (cubeRd A B) (K ck) (kcell ck))
    ∗ bigSep Finset.univ fun ck : Dev nD × Fin 31 => reached ER (kcell ck) 0) ∗ levAts L lv)

instance Env_persistent : BI.Persistent (Env A B K) := by unfold Env; infer_instance

theorem cells_inv (ck : Dev nD × Fin 31) :
    (bigSep Finset.univ fun ck : Dev nD × Fin 31 => (cellInv ER (cubeRd A B) (K ck) (kcell ck) : sProp 𝕄))
      ⊢ cellInv ER (cubeRd A B) (K ck) (kcell ck) := bigSep_elim (Finset.mem_univ ck)

theorem cells_reached (ck : Dev nD × Fin 31) :
    (bigSep Finset.univ fun ck : Dev nD × Fin 31 => (reached ER (kcell ck) 0 : sProp 𝕄)) ⊢ reached ER (kcell ck) 0 :=
  bigSep_elim (Finset.mem_univ ck)

theorem env_inv (ck : Dev nD × Fin 31) : Env A B K ⊢ cellInv ER (cubeRd A B) (K ck) (kcell ck) := by
  unfold Env; iintro ⟨⟨H, -⟩, -⟩
  iapply (cells_inv A B K ck); iexact H

theorem env_reached (ck : Dev nD × Fin 31) : Env A B K ⊢ reached ER (kcell ck) 0 := by
  unfold Env; iintro ⟨⟨-, H⟩, -⟩
  iapply (cells_reached (F := F) ck); iexact H

theorem env_lev : Env A B K ⊢ levAts L lv := by
  unfold Env; iintro ⟨-, H⟩; iexact H

theorem env_inv_bar (c : Dev nD) : Env A B K ⊢ cellInv ER (cubeRd A B) (K (c, 0)) (barCell c) := env_inv A B K (c, 0)
theorem env_inv_snd (t : Fin 15) (c : Dev nD) : Env A B K ⊢ cellInv ER (cubeRd A B) (K (c, sndNo t)) (sndCell t c) := by
  have h := env_inv A B K (c, sndNo t); rw [kcell_snd] at h; exact h
theorem env_inv_rcv (t : Fin 15) (c : Dev nD) : Env A B K ⊢ cellInv ER (cubeRd A B) (K (c, rcvNo t)) (rcvCell t c) := by
  have h := env_inv A B K (c, rcvNo t); rw [kcell_rcv] at h; exact h
theorem env_reached_bar (c : Dev nD) : Env A B K ⊢ reached ER (barCell c) 0 := env_reached A B K (c, 0)
theorem env_reached_snd (t : Fin 15) (c : Dev nD) : Env A B K ⊢ reached ER (sndCell t c) 0 := by
  have h := env_reached A B K (c, sndNo t); rw [kcell_snd] at h; exact h
theorem env_reached_rcv (t : Fin 15) (c : Dev nD) : Env A B K ⊢ reached ER (rcvCell t c) 0 := by
  have h := env_reached A B K (c, rcvNo t); rw [kcell_rcv] at h; exact h

/-! ## What a device carries -/

/-- The right to pay one unit to the neighbour's barrier across link `l`. -/
def BarTok (l : Fin 3) (c : Dev nD) : sProp 𝕄 := dutyTok ER (barCell (peer l c)) 0 l
/-- The right to wait on its own barrier for the three units. -/
def BarWait (c : Dev nD) : sProp 𝕄 := iprop(cred (tallyAt (barCell c) () 3) ∗ atPos ER (barCell c) 0 ∅ 0)
/-- Copy `t` not yet issued by `c`. -/
def Snd (t : Fin 15) (c : Dev nD) : sProp 𝕄 :=
  iprop(dutyTok ER (sndCell t c) 0 0 ∗ dutyTok ER (rcvCell t (peer (lk t) c)) 0 0 ∗ atPos ER (sndCell t c) 0 ∅ 0)
/-- Copy `t` issued by `c`, its completion not yet waited for. -/
def Sndw (t : Fin 15) (c : Dev nD) : sProp 𝕄 := iprop(cred (tallyAt (sndCell t c) () (amt t)) ∗ atPos ER (sndCell t c) 0 ∅ 0)
/-- Copy `t` towards `c`, its arrival not yet waited for. -/
def Rcv (t : Fin 15) (c : Dev nD) : sProp 𝕄 := iprop(cred (tallyAt (rcvCell t c) () (amt t)) ∗ atPos ER (rcvCell t c) 0 ∅ 0)
/-- Device `c` owes `O`. -/
def Owe (c : Dev nD) (O : CellTallies nD τ sig Unit) : sProp 𝕄 := iprop(∃ W, owes (c : Thread nD τ) O W)
/-- Device `c` owes the copies of a list. -/
abbrev Owes (c : Dev nD) (l : List (Fin 15)) : sProp 𝕄 := Owe c (owedL c l)

/-- The counters of the two cells of copy `t` on `c`, at zero again. -/
def DoneS (t : Fin 15) (c : Dev nD) : sProp 𝕄 := semVal (sndCell t c) 0
def DoneR (t : Fin 15) (c : Dev nD) : sProp 𝕄 := semVal (rcvCell t c) 0

variable {α : Type}

/-! ## The steps -/

/-- A signal to the neighbour across link `l` hands it this device's target regions for that link. -/
theorem signal_step (c n : Dev nD) (l : Fin 3) (hn : n = peer l c) (O : CellTallies nD τ sig Unit)
    {k' : ℕ} (hk' : k' = 1) {k : PUnit → Prog (TpuEff nD τ sig (Elt F) Λ₀ .tc) α} {Q : α → sProp 𝕄} :
    iprop(Env A B K ∗ Owe c (O + tallyAt (barCell (peer l c)) () 1) ∗ BarTok l c ∗ holes l c)
      ⊢ iprop((Owe c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn
  subst hk'
  unfold Owe BarTok
  iintro ⟨#HE, ⟨%W, HO⟩, Ht, Hh⟩ Hk
  ihave #HI := (env_inv_bar A B K (peer l c)) $$ HE
  ihave #HR := (env_reached_bar A B K (peer l c)) $$ HE
  iapply (Rounds.wp_signal 𝒱₀ ER (cubeRd A B) (c : Thread nD τ) none (dst := (peer l c : Thread nD τ)) (κ := K (peer l c, 0))
      (d := l) (by rw [duties_bar]; exact Finset.mem_univ _) (amount_bar A B (peer l c) l) () O rfl) $$ [HO Ht Hh]
  · isplitr; · iexact HI
    isplitl [HO]; · iexact HO
    isplitl [Ht]; · iexact Ht
    isplitl [Hh]; · rw [payload_bar, peer_peer]; iexact Hh
    iexact HR
  iintro HO
  iapply Hk
  iexists W; iexact HO

/-- The barrier wait brings the neighbours' target regions; the barrier cell is then at zero for good. -/
theorem bar_step (c : Dev nD) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (.reg barS) 3 P)
    {k : PUnit → Prog (TpuEff nD τ sig (Elt F) Λ₀ .tc) α} {Q : α → sProp 𝕄} :
    iprop(Env A B K ∗ BarWait c ∗ Owes c ord)
      ⊢ iprop(((Owes c ord ∗ (holes 0 (peer 0 c) ∗ holes 1 (peer 1 c) ∗ holes 2 (peer 2 c)) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold Owes Owe BarWait
  iintro ⟨#HE, ⟨Hc, Hat⟩, ⟨%W, HO⟩⟩ Hk
  ihave #HI := (env_inv_bar A B K c) $$ HE
  ihave #HL := (env_lev A B K) $$ HE
  iapply (Rounds.wp_wait_rest_token 𝒱₀ ER (cubeRd A B) (c : Thread nD τ) none (κ := K (c, 0)) hw (Set.mem_univ _) ()
      (O := owedL c ord) (W := W) (R := 0) (m := 0) (T := ∅) (by rw [expect_bar])) $$ [Hc HO Hat]
  · isplitr; · iexact HI
    isplitl [Hc]; · iexact Hc
    isplitl [HO]; · iexact HO
    isplitr; · iapply (mayWait_at c (.reg barS) ord (by decide)); iexact HL
    iexact Hat
  iintro ⟨HO, Hat, -, Hpay⟩
  imod (Rounds.cell_close ER (cubeRd A B) (Set.mem_univ (K (c, 0))) (fun h => h) (R := 0 + 1) (duties_later A B (barCell c))) $$ [Hat] with Hz
  · isplitr; · iexact HI
    iexact Hat
  ihave Hp := (Entails.of_eq (rest_bar A B c)) $$ Hpay
  iapply Hk
  isplitl [HO]; · iexists _; iexact HO
  isplitl [Hp]; · iexact Hp
  iexact Hz

/-- Waiting for the arrival of copy `t`: the target region comes back with what the neighbour sent. -/
theorem recv_step (c : Dev nD) (t : Fin 15) (l : List (Fin 15)) (hl : ∀ t' ∈ l, phase t < phase t') {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (.dma (rcvS t)) (amt t) P)
    {k : PUnit → Prog (TpuEff nD τ sig (Elt F) Λ₀ .tc) α} {Q : α → sProp 𝕄} :
    iprop(Env A B K ∗ Rcv t c ∗ Owes c l)
      ⊢ iprop(((Owes c l ∗ recvPay A B t c ∗ DoneR t c)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold Owes Owe Rcv DoneR
  iintro ⟨#HE, ⟨Hc, Hat⟩, ⟨%W, HO⟩⟩ Hk
  ihave #HI := (env_inv_rcv A B K t c) $$ HE
  ihave #HL := (env_lev A B K) $$ HE
  iapply (Rounds.wp_wait_rest_token 𝒱₀ ER (cubeRd A B) (c : Thread nD τ) none (κ := K (c, rcvNo t)) hw (Set.mem_univ _) ()
      (O := owedL c l) (W := W) (R := 0) (m := 0) (T := ∅) (by rw [expect_rcv, Nat.zero_add])) $$ [Hc HO Hat]
  · isplitr; · iexact HI
    isplitl [Hc]; · iexact Hc
    isplitl [HO]; · iexact HO
    isplitr; · iapply (mayWait_at c (.dma (rcvS t)) l (by rw [lvS_rcv]; exact hl)); iexact HL
    iexact Hat
  iintro ⟨HO, Hat, -, Hpay⟩
  imod (Rounds.cell_close ER (cubeRd A B) (Set.mem_univ (K (c, rcvNo t))) (fun h => h) (R := 0 + 1) (duties_later A B (rcvCell t c))) $$ [Hat] with Hz
  · isplitr; · iexact HI
    iexact Hat
  ihave Hp := (Entails.of_eq (rest_rcv A B c t)) $$ Hpay
  iapply Hk
  isplitl [HO]; · iexists _; iexact HO
  isplitl [Hp]; · iexact Hp
  iexact Hz

/-- Waiting for the completion of its own copy `t`, owing nothing: the source region comes back. -/
theorem done_step (c : Dev nD) (t : Fin 15) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (.dma (sndS t)) (amt t) P)
    {k : PUnit → Prog (TpuEff nD τ sig (Elt F) Λ₀ .tc) α} {Q : α → sProp 𝕄} :
    iprop(Env A B K ∗ Sndw t c ∗ Owes c [])
      ⊢ iprop(((Owes c [] ∗ sendPay A B t c ∗ DoneS t c)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold Owes Owe Sndw DoneS
  iintro ⟨#HE, ⟨Hc, Hat⟩, ⟨%W, HO⟩⟩ Hk
  ihave #HI := (env_inv_snd A B K t c) $$ HE
  ihave #HL := (env_lev A B K) $$ HE
  iapply (Rounds.wp_wait_rest_token 𝒱₀ ER (cubeRd A B) (c : Thread nD τ) none (κ := K (c, sndNo t)) hw (Set.mem_univ _) ()
      (O := owedL c []) (W := W) (R := 0) (m := 0) (T := ∅) (by rw [expect_snd, Nat.zero_add])) $$ [Hc HO Hat]
  · isplitr; · iexact HI
    isplitl [Hc]; · iexact Hc
    isplitl [HO]; · iexact HO
    isplitr; · iapply (mayWait_at c (.dma (sndS t)) [] (fun _ h => absurd h (List.not_mem_nil))); iexact HL
    iexact Hat
  iintro ⟨HO, Hat, -, Hpay⟩
  imod (Rounds.cell_close ER (cubeRd A B) (Set.mem_univ (K (c, sndNo t))) (fun h => h) (R := 0 + 1) (duties_later A B (sndCell t c))) $$ [Hat] with Hz
  · isplitr; · iexact HI
    iexact Hat
  ihave Hp := (Entails.of_eq (rest_snd A B c t)) $$ Hpay
  iapply Hk
  isplitl [HO]; · iexists _; iexact HO
  isplitl [Hp]; · iexact Hp
  iexact Hz

/-- Issuing copy `t`, the next of the owed list, between any two memrefs: the source region goes with it, and so does the neighbour's target
    region, on which the landing must leave what the neighbour expects. -/
theorem send_step (c n : Dev nD) (t : Fin 15) (l : List (Fin 15)) (hn : n = peer (lk t) c) {s : Shape}
    {src dst : Memref sig .tc .vmem s .bf16} {sS sR : DmaSem sig} (hS : sS = sndS t) (hR : sR = rcvS t) (hamt : dst.view.dmaCredit = amt t)
    {hsc : (dst : Memref sig (Dev.tc n : Thread nD τ).2.kind .vmem s .bf16).view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} {Q : α → sProp 𝕄}
    (fs : Buf (Elt F) (src.view.loc (c : Thread nD τ)))
    (hsp : sendPay A B t c = (src.view.loc (c : Thread nD τ) ↦[src.view.set]{fullShare} fs : sProp 𝕄))
    (hho : hole t (peer (lk t) c) ⊢ (iprop(∃ fd, dst.view.loc (peer (lk t) c : Thread nD τ) ↦[dst.view.set]{fullShare} fd) : sProp 𝕄))
    (hla : ∀ fd, (dst.view.loc (peer (lk t) c : Thread nD τ) ↦[dst.view.set]{fullShare} dst.view.write (Elt F) fd (src.view.read (Elt F) fs) Finset.univ : sProp 𝕄)
      ⊢ landPay A B t c (peer (lk t) c)) :
    iprop(Env A B K ∗ Snd t c ∗ Owes c (t :: l) ∗ sendPay A B t c ∗ hole t (peer (lk t) c))
      ⊢ iprop(((Owes c l ∗ Sndw t c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  subst hS
  subst hR
  unfold Owes Owe Snd Sndw
  iintro ⟨#HE, ⟨HtS, HtR, Hat⟩, ⟨%W, HO⟩, Hs, Hh⟩ Hk
  ihave #HIs := (env_inv_snd A B K t c) $$ HE
  ihave #HIr := (env_inv_rcv A B K t (peer (lk t) c)) $$ HE
  ihave #HRs := (env_reached_snd A B K t c) $$ HE
  ihave #HRr := (env_reached_rcv A B K t (peer (lk t) c)) $$ HE
  ihave Hh := hho $$ Hh
  icases Hh with ⟨%fd, Hh⟩
  ihave Hs := (Entails.of_eq hsp) $$ Hs
  iapply (Rounds.wp_send_pointsTo 𝒱₀ ER (cubeRd A B) (c : Thread nD τ) none (κ₁ := K (c, sndNo t)) (κ₂ := K (peer (lk t) c, rcvNo t))
      (r₁ := 0) (r₂ := 0) (d₁ := 0) (d₂ := 0) (fs := fs) (fd := fd)
      (by rw [duties_snd]; exact Finset.mem_singleton_self _) (by rw [duties_rcv]; exact Finset.mem_singleton_self _)
      () () (amt t) (show dst.view.amount (.dma (rcvS t)) = amt t from hamt) (amount_snd A B c t 0) (amount_rcv A B (peer (lk t) c) t 0) (owedL c l) rfl (W := W)
      (by rw [payload_snd, hsp]) (by rw [payload_rcv]; unfold recvPay; rw [peer_peer]; exact hla fd)) $$ [Hs Hh HO HtS HtR]
  · isplitr; · iexact HIs
    isplitr; · iexact HIr
    isplitl [Hs]; · iexact Hs
    isplitl [Hh]; · iexact Hh
    isplitl [HO]; · iexact HO
    isplitl [HtS]; · iexact HtS
    isplitr; · iexact HRs
    isplitl [HtR]; · iexact HtR
    iexact HRr
  iintro ⟨Hc, HO⟩
  iapply Hk
  isplitl [HO]; · iexists _; iexact HO
  isplitl [Hc]; · iexact Hc
  iexact Hat

/-- Issuing a copy between the same boxes of two buffers. -/
theorem send_piece (c n : Dev nD) (t : Fin 15) (l : List (Fin 15)) (hn : n = peer (lk t) c) {s s' : Shape}
    (M M' : Memref sig .tc .vmem s .bf16) (r : Rect s) (hr : ∀ a, r.stride a = 1) (hs : r.shape.Squeezes s') (x : s.Idx → Elt F .bf16)
    (hsp : sendPay A B t c = held c M (M.view.setOn r.set) x)
    (hho : hole t (peer (lk t) c) = (iprop(∃ y, held (F := F) (peer (lk t) c) M' (M'.view.setOn r.set) y) : sProp 𝕄))
    (hla : landPay A B t c (peer (lk t) c) = held (peer (lk t) c) M' (M'.view.setOn r.set) x)
    {sS sR : DmaSem sig} (hS : sS = sndS t) (hR : sR = rcvS t) (hamt : ((M'.slice r hr).squeeze s' hs).view.dmaCredit = amt t)
    {hsc : (((M'.slice r hr).squeeze s' hs) : Memref sig (Dev.tc n : Thread nD τ).2.kind .vmem s' .bf16).view.ref.isScScratch = false}
    {hsrc : ((M.slice r hr).squeeze s' hs).view.WordExact} {hdst : ((M'.slice r hr).squeeze s' hs).view.WordExact}
    {hsem : DmaTarget.Typed .vmem (.dma sR) (.remote (Dev.tc n : Thread nD τ) ((M'.slice r hr).squeeze s' hs) (.dma sS) hsc)}
    {k : PUnit → Prog (TpuEff nD τ sig (Elt F) Λ₀ .tc) α} {Q : α → sProp 𝕄} :
    iprop(Env A B K ∗ Snd t c ∗ Owes c (t :: l) ∗ sendPay A B t c ∗ hole t (peer (lk t) c))
      ⊢ iprop(((Owes c l ∗ Sndw t c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice r hr).squeeze s' hs) (.remote (Dev.tc n : Thread nD τ) ((M'.slice r hr).squeeze s' hs) (.dma sS) hsc)
                (.dma sR) hsrc hdst hsem) k) Q) := by
  refine send_step A B K c n t l hn hS hR hamt (M.view.rep x) ?_ ?_ ?_
  · rw [hsp, set_piece]; rfl
  · rw [hho, set_piece]
    unfold held
    iintro ⟨%y, H⟩
    iexists (M'.view.rep y); iexact H
  · intro fd
    rw [hla, set_piece]
    exact Entails.of_eq (pointsTo_congr fun i hi => landed_piece M M' r hr hs x fd i hi)

/-- Issuing a copy from a box of one buffer onto the whole of another. -/
theorem send_whole (c n : Dev nD) (t : Fin 15) (l : List (Fin 15)) (hn : n = peer (lk t) c) {s : Shape} {off size : Fin s.rank → ℕ}
    (inb : ∀ a, off a + size a ≤ s.size a)
    (M : Memref sig .tc .vmem s .bf16) (M' : Memref sig .tc .vmem (Rect.unit (s := s) off size inb).shape .bf16)
    (hr : ∀ a, (Rect.unit (s := s) off size inb).stride a = 1) (x : s.Idx → Elt F .bf16)
    (hsp : sendPay A B t c = held c M (reg M off size inb) x)
    (hho : hole t (peer (lk t) c) = (iprop(∃ y, held (F := F) (peer (lk t) c) M' M'.view.set y) : sProp 𝕄))
    (hla : landPay A B t c (peer (lk t) c) = held (peer (lk t) c) M' M'.view.set (window x off size inb))
    {sS sR : DmaSem sig} (hS : sS = sndS t) (hR : sR = rcvS t) (hamt : M'.view.dmaCredit = amt t)
    {hsc : (M' : Memref sig (Dev.tc n : Thread nD τ).2.kind .vmem (Rect.unit (s := s) off size inb).shape .bf16).view.ref.isScScratch = false}
    {hsrc : (M.slice (Rect.unit (s := s) off size inb) hr).view.WordExact} {hdst : M'.view.WordExact}
    {hsem : DmaTarget.Typed .vmem (.dma sR) (.remote (Dev.tc n : Thread nD τ) M' (.dma sS) hsc)}
    {k : PUnit → Prog (TpuEff nD τ sig (Elt F) Λ₀ .tc) α} {Q : α → sProp 𝕄} :
    iprop(Env A B K ∗ Snd t c ∗ Owes c (t :: l) ∗ sendPay A B t c ∗ hole t (peer (lk t) c))
      ⊢ iprop(((Owes c l ∗ Sndw t c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M.slice (Rect.unit (s := s) off size inb) hr) (.remote (Dev.tc n : Thread nD τ) M' (.dma sS) hsc)
                (.dma sR) hsrc hdst hsem) k) Q) := by
  refine send_step A B K c n t l hn hS hR hamt (M.view.rep x) ?_ ?_ ?_
  · rw [hsp, show (M.slice (Rect.unit (s := s) off size inb) hr).view.set = reg M off size inb from View.set_slice _ _]; rfl
  · rw [hho]
    unfold held
    iintro ⟨%y, H⟩
    iexists (M'.view.rep y); iexact H
  · intro fd
    rw [hla]
    exact Entails.of_eq (pointsTo_congr fun i hi => landed_whole M inb M' hr x fd i hi)

end

end Cert.Cube

end
-- ==== Proof.Ghost.lean ====
/-
# The ghost state of the launch

Every device's thirty-one cells are set up at once: the counters, found at zero, become invariants, and the right to each duty goes to the
device that pays it. At launch a device is owed three units on its barrier cell and each copy's credit on the copy's receive cell.
-/
module

public import proofs.«01_k».proof.Proof.Steps
public import Idealize.ShloMosaic.Lib.Pipeline.BigSepL

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-! ## The numbering of a device's cells -/

theorem csem_injective : Function.Injective csem := by decide +kernel

theorem kcell_injective : Function.Injective kcell := by
  rintro ⟨c, k⟩ ⟨c', k'⟩ h
  obtain rfl : c = c' := congrArg (fun g : GSem nD τ sig => g.1.1) h
  obtain rfl : k = k' := csem_injective (congrArg Prod.snd h)
  rfl

/-- A conjunction over a device's cells is the barrier's, the send cells' and the receive cells'. -/
theorem over_cells (Φ : Fin 31 → sProp 𝕄) :
    bigSep Finset.univ Φ = iprop(Φ 0 ∗ (bigSep Finset.univ fun t : Fin 15 => Φ (sndNo t)) ∗ bigSep Finset.univ fun t : Fin 15 => Φ (rcvNo t)) := by
  rw [bigSep_univ_eq_bigSepL ([0] ++ ((List.finRange 15).map sndNo ++ (List.finRange 15).map rcvNo)) (by decide +kernel) (by decide +kernel) Φ,
    BI.bigSepL_append, BI.bigSepL_append, BI.bigSepL_map, BI.bigSepL_map, bigSepL_singleton,
    bigSep_univ_eq_bigSepL (List.finRange 15) (by decide) (by decide), bigSep_univ_eq_bigSepL (List.finRange 15) (by decide) (by decide)]

def sndOs (t : Fin 15) : Fin 30 := ⟨(sndS t).val - 3, by have : (sndS t).val < 33 := (sndS t).isLt; omega⟩
def rcvOs (t : Fin 15) : Fin 30 := ⟨(rcvS t).val - 3, by have : (rcvS t).val < 33 := (rcvS t).isLt; omega⟩
theorem osem_snd : ∀ t, osem (sndOs t) = .dma (sndS t) := by decide +kernel
theorem osem_rcv : ∀ t, osem (rcvOs t) = .dma (rcvS t) := by decide +kernel

/-- The launch's own semaphores at zero are the copies' cells at zero, -/
theorem ownSems0_eq (c : Dev nD) : (Pipeline.ownSems0 (Ix := Unit) (Name := ℕ) (U := UU) (Lvl := ℕ) (Val := Elt F) (τ := τ) osem c : sProp 𝕄)
    = iprop((bigSep Finset.univ fun t => DoneS t c) ∗ bigSep Finset.univ fun t => DoneR t c) := by
  rw [Pipeline.ownSems0_eq_of_list c osem ((List.finRange 15).map sndOs ++ (List.finRange 15).map rcvOs) (by decide +kernel) (by decide +kernel),
    BI.bigSepL_append, BI.bigSepL_map, BI.bigSepL_map,
    bigSep_univ_eq_bigSepL (List.finRange 15) (by decide) (by decide), bigSep_univ_eq_bigSepL (List.finRange 15) (by decide) (by decide)]
  unfold DoneS DoneR
  simp only [osem_snd, osem_rcv]

/-- and the one semaphore that is not the launch's own is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  rw [ownSems0_eq, unscopedSems0_eq, over_cells]
  unfold DoneS DoneR
  simp only [kcell_snd, kcell_rcv, kcell_bar]
  iintro ⟨⟨HS, HV⟩, HB⟩
  isplitl [HB]; · iexact HB
  isplitl [HS] <;> iassumption

/-! ## The cells and duties that are set up -/

def cubeCells : Finset (GSem nD τ sig) := Finset.univ.map ⟨kcell, kcell_injective⟩

/-- A device's duties: three on its barrier cell, one on each copy's send and receive cell. -/
abbrev Duty : Type := Fin 3 ⊕ Fin 15 ⊕ Fin 15
def dutyOf (cj : Dev nD × Duty) : GSem nD τ sig × ℕ × Fin 3 := match cj.2 with
  | .inl l => (barCell cj.1, 0, l) | .inr (.inl t) => (sndCell t cj.1, 0, 0) | .inr (.inr t) => (rcvCell t cj.1, 0, 0)

def dutyKey : Duty → SemLoc sig × Fin 3
  | .inl l => (.reg barS, l) | .inr (.inl t) => (.dma (sndS t), 0) | .inr (.inr t) => (.dma (rcvS t), 0)
theorem dutyKey_injective : Function.Injective dutyKey := by decide +kernel

theorem dutyOf_injective : Function.Injective dutyOf := by
  rintro ⟨c, j⟩ ⟨c', j'⟩ h
  have h1 : c = c' := by
    have := congrArg (fun x : GSem nD τ sig × ℕ × Fin 3 => x.1.1.1) h
    rcases j with l | t | t <;> rcases j' with l' | t' | t' <;> exact this
  subst h1
  have h2 : dutyKey j = dutyKey j' := by
    have := congrArg (fun x : GSem nD τ sig × ℕ × Fin 3 => (x.1.2, x.2.2)) h
    rcases j with l | t | t <;> rcases j' with l' | t' | t' <;> exact this
  rw [dutyKey_injective h2]
def cubeToks : Finset (GSem nD τ sig × ℕ × Fin 3) := Finset.univ.map ⟨dutyOf, dutyOf_injective⟩

def u₀ : UU :=
  (initOf (Pipeline.cells cfgs cellOf_inj) (Pipeline.launchToks cfgs cellOf_inj), initOf cubeCells cubeToks)

/-- The rights to the duties of device `c`'s own cells. -/
def toks (c : Dev nD) : sProp 𝕄 :=
  iprop((bigSep Finset.univ fun l : Fin 3 => dutyTok ER (barCell c) 0 l) ∗ (bigSep Finset.univ fun t : Fin 15 => dutyTok ER (sndCell t c) 0 0)
    ∗ bigSep Finset.univ fun t : Fin 15 => dutyTok ER (rcvCell t c) 0 0)

/-- The rights to the duties that device `c` pays. -/
def payToks (c : Dev nD) : sProp 𝕄 :=
  iprop((bigSep Finset.univ fun l : Fin 3 => BarTok l c) ∗ (bigSep Finset.univ fun t : Fin 15 => dutyTok ER (sndCell t c) 0 0)
    ∗ bigSep Finset.univ fun t : Fin 15 => dutyTok ER (rcvCell t (peer (lk t) c)) 0 0)

/-- The neighbour across a link, as a permutation of the devices. -/
def across (l : Fin 3) : Dev nD ≃ Dev nD := ⟨peer l, peer l, peer_peer l, peer_peer l⟩

/-- A conjunction over devices and an index may be taken in either order. -/
theorem turned {J : Type} [Fintype J] (Φ : Dev nD → J → sProp 𝕄) :
    (bigSep Finset.univ fun c => bigSep Finset.univ fun j => Φ c j) = bigSep Finset.univ fun j => bigSep Finset.univ fun c => Φ c j := by
  rw [← bigSep_univ_prod fun p : Dev nD × J => Φ p.1 p.2, ← bigSep_univ_prod fun p : J × Dev nD => Φ p.2 p.1]
  exact bigSep_univ_equiv (Equiv.prodComm J (Dev nD)) fun p : Dev nD × J => Φ p.1 p.2

/-- The rights go from the cells' devices to the devices that pay: across a cell's link. -/
theorem toks_across : (bigSep Finset.univ fun c : Dev nD => (toks c : sProp 𝕄)) ⊢ bigSep Finset.univ fun c : Dev nD => payToks c := by
  unfold toks payToks BarTok
  rw [bigSep_sep', bigSep_sep', bigSep_sep', bigSep_sep', turned fun (c : Dev nD) (l : Fin 3) => (dutyTok ER (barCell c) 0 l : sProp 𝕄),
    turned fun (c : Dev nD) (t : Fin 15) => (dutyTok ER (rcvCell t c) 0 0 : sProp 𝕄),
    turned fun (c : Dev nD) (l : Fin 3) => (dutyTok ER (barCell (peer l c)) 0 l : sProp 𝕄),
    turned fun (c : Dev nD) (t : Fin 15) => (dutyTok ER (rcvCell t (peer (lk t) c)) 0 0 : sProp 𝕄)]
  refine BIClass.sep_mono (Entails.of_eq (bigSep_congr fun l _ => bigSep_univ_equiv (across l) fun c : Dev nD => (dutyTok ER (barCell c) 0 l : sProp 𝕄)))
    (sep_mono_right (Entails.of_eq (bigSep_congr fun t _ => bigSep_univ_equiv (across (lk t)) fun c : Dev nD => (dutyTok ER (rcvCell t c) 0 0 : sProp 𝕄))))

section
variable (A : Dev nD → Vec F S2048x1024 .bf16) (B : Dev nD → Vec F S1024x2048 .bf16)

/-- What the launch element deals device `c`. -/
def G (c : Dev nD) : sProp 𝕄 :=
  iprop((bigSep Finset.univ fun k : Fin 31 => roundState ER (cubeRd A B) (kcell (c, k)) 0)
    ∗ (bigSep Finset.univ fun k : Fin 31 => iprop(atPos ER (kcell (c, k)) 0 ∅ 0 ∗ reached ER (kcell (c, k)) 0)) ∗ toks c)

theorem fund_cube : BI.own (ER (initOf cubeCells cubeToks)) ⊢ (|==> bigSep Finset.univ (G A B) : sProp 𝕄) := by
  have hX (Φ : GSem nD τ sig → sProp 𝕄) : bigSep cubeCells Φ = bigSep Finset.univ fun c : Dev nD => bigSep Finset.univ fun k : Fin 31 => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]
    exact bigSep_congr fun c _ => by unfold toks; rw [bigSep_univ_sum, bigSep_univ_sum]; rfl
  iintro HX
  imod (Rounds.fund ER (cubeRd A B) cubeCells cubeToks) $$ HX with ⟨Hst, Hr, Hat, Htok⟩
  imodintro
  ihave Hst' := (Entails.of_eq (hX fun g => roundState ER (cubeRd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (cubeRd A B) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 31 => semVal (kcell (c, k)) 0) ∗ bigSep Finset.univ fun k : Fin 31 => roundState ER (cubeRd A B) (kcell (c, k)) 0)
      ⊢ (|={Set.univ}=> bigSep Finset.univ fun k => iprop(∃ κ : ℕ, cellInv ER (cubeRd A B) κ (kcell (c, k))) : sProp 𝕄) from by
        rw [← bigSep_sep']
        exact (bigSep_mono fun k _ => (Rounds.body_intro ER (cubeRd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all devices know of the cells. -/
def records (K : Dev nD × Fin 31 → ℕ) : sProp 𝕄 :=
  iprop((bigSep Finset.univ fun ck : Dev nD × Fin 31 => cellInv ER (cubeRd A B) (K ck) (kcell ck))
    ∗ bigSep Finset.univ fun ck : Dev nD × Fin 31 => reached ER (kcell ck) 0)

instance records_persistent (K : Dev nD × Fin 31 → ℕ) : BI.Persistent (records A B K) := by unfold records; infer_instance

/-- What a device has for itself: its positions at its cells, and the rights to the duties it pays. -/
def mine (c : Dev nD) : sProp 𝕄 := iprop((bigSep Finset.univ fun k : Fin 31 => atPos ER (kcell (c, k)) 0 ∅ 0) ∗ payToks c)

def G' (c : Dev nD) : sProp 𝕄 := iprop(∃ K, records A B K ∗ mine c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (cubeRd A B) κ (kcell (c, k))))
          ∗ (bigSep Finset.univ fun k => iprop(atPos ER (kcell (c, k)) 0 ∅ 0 ∗ reached ER (kcell (c, k)) 0)) ∗ toks c) : sProp 𝕄)
      ⊢ bigSep Finset.univ (G' A B) := by
  rw [bigSep_sep', bigSep_sep', ← bigSep_univ_prod (fun ck : Dev nD × Fin 31 => iprop(∃ κ : ℕ, cellInv ER (cubeRd A B) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok⟩
  ihave HK := (BI.bigSep_exists_pi Finset.univ (fun (ck : Dev nD × Fin 31) (κ : ℕ) => (cellInv ER (cubeRd A B) κ (kcell ck) : sProp 𝕄))) $$ HI
  icases HK with ⟨%K, #HI⟩
  ihave Htk := (toks_across (F := F)) $$ Htok
  iapply (with_persistent (R := records A B K) (Φ := mine) fun c _ => by
    unfold G'
    iintro H
    iexists K; iexact H)
  isplitr
  · unfold records; isplitl; · iexact HI
    iexact HR
  · unfold mine
    rw [bigSep_sep']
    isplitl [Hat]; · iexact Hat
    iexact Htk

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end

/-! ## What is owed at launch -/

theorem bar_ne_rcv (t : Fin 15) (c d : Dev nD) : barCell c ≠ rcvCell t d := fun h => by
  have := congrArg Prod.snd h; cases this

theorem bar_eq_iff {a b : Dev nD} : Iff (barCell a = barCell b) (a = b) :=
  ⟨fun h => congrArg (fun g : GSem nD τ sig => g.1.1) h, fun h => h ▸ rfl⟩

theorem rcvS_injective : Function.Injective rcvS := by decide +kernel

theorem rcv_eq_iff {t t' : Fin 15} {a b : Dev nD} : Iff (rcvCell t a = rcvCell t' b) (t = t' ∧ a = b) := by
  refine ⟨fun h => ?_, fun h => by rw [h.1, h.2]⟩
  have h1 := congrArg (fun g : GSem nD τ sig => g.1.1) h
  have h2 : SemLoc.dma (rcvS t) = SemLoc.dma (rcvS t') := congrArg Prod.snd h
  exact ⟨rcvS_injective (SemLoc.dma.inj h2), h1⟩

theorem swap_iff {l : Fin 3} {c d : Dev nD} : Iff (c = peer l d) (d = peer l c) :=
  ⟨fun h => by rw [h, peer_peer], fun h => by rw [h, peer_peer]⟩

theorem owedL_bar (c d : Dev nD) (l : List (Fin 15)) : owedL d l (barCell c) () = 0 := by
  rcases Nat.eq_zero_or_pos (owedL d l (barCell c) ()) with h | h
  · exact h
  · obtain ⟨t, -, e⟩ := owedL_pos h
    exact absurd e (bar_ne_rcv t c _)

theorem owedL_rcv (t : Fin 15) (c d : Dev nD) (l : List (Fin 15)) :
    owedL d l (rcvCell t c) () = l.count t * (if d = peer (lk t) c then amt t else 0) := by
  induction l with
  | nil => rw [List.count_nil, Nat.zero_mul]; rfl
  | cons t' l ih =>
    unfold owedL
    rw [Pi.add_apply, Finsupp.add_apply, ih, tallyAt_apply, List.count_cons]
    by_cases ht : t' = t
    · subst ht
      by_cases hd : d = peer (lk t') c
      · rw [if_pos hd, if_pos ⟨rcv_eq_iff.2 ⟨rfl, swap_iff.2 hd⟩, rfl⟩, if_pos (by simp)]; rw [Nat.add_mul, Nat.one_mul]
      · rw [if_neg hd, if_neg fun h => hd (swap_iff.1 (rcv_eq_iff.1 h.1).2), Nat.mul_zero, Nat.mul_zero]
    · have h1 : ¬(rcvCell t c = rcvCell t' (peer (lk t') d) ∧ () = ()) := fun h => ht (rcv_eq_iff.1 h.1).1.symm
      have h2 : ¬((t' == t) = true) := by simpa using ht
      rw [if_neg h1, if_neg h2, Nat.add_zero, Nat.add_zero]

theorem bar_tally (l : Fin 3) (c d : Dev nD) :
    (tallyAt (barCell (peer l d)) () 1 : CellTallies nD τ sig Unit) (barCell c) () = if d = peer l c then 1 else 0 := by
  rw [tallyAt_apply]
  by_cases hd : d = peer l c
  · rw [if_pos hd, if_pos ⟨bar_eq_iff.2 (swap_iff.2 hd), rfl⟩]
  · rw [if_neg hd, if_neg fun h => hd (swap_iff.1 (bar_eq_iff.1 h.1))]

theorem owed_bar (c d : Dev nD) :
    O₀ d (barCell c) () = (if d = peer 2 c then 1 else 0) + (if d = peer 1 c then 1 else 0) + (if d = peer 0 c then 1 else 0) := by
  unfold O₀ O₁ O₂
  simp only [Pi.add_apply, Finsupp.add_apply]
  rw [owedL_bar, bar_tally, bar_tally, bar_tally, Nat.zero_add]

theorem count_ord : ∀ t, ord.count t = 1 := by decide

theorem owed_rcv (t : Fin 15) (c d : Dev nD) : O₀ d (rcvCell t c) () = if d = peer (lk t) c then amt t else 0 := by
  unfold O₀ O₁ O₂
  simp only [Pi.add_apply, Finsupp.add_apply]
  rw [owedL_rcv, count_ord, tallyAt_ne_cell (bar_ne_rcv t _ c).symm, tallyAt_ne_cell (bar_ne_rcv t _ c).symm, tallyAt_ne_cell (bar_ne_rcv t _ c).symm]
  simp only [Finsupp.zero_apply, Nat.add_zero, Nat.one_mul]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

theorem launch_rcv (t : Fin 15) (c : Dev nD) :
    tallyOn (rcvCell t c) (launchCredit (Pipeline.owing O₀) 0 (rcvCell t c)) = (tallyAt (rcvCell t c) () (amt t) : CellTallies nD τ sig Unit) := by
  unfold tallyAt; refine congrArg _ (Finsupp.ext fun u => ?_); cases u
  rw [Pipeline.launchCredit_owing, Finsupp.single_eq_same, Finset.sum_congr rfl fun d _ => owed_rcv t c d,
    Finset.sum_ite_eq' Finset.univ (peer (lk t) c) fun _ => amt t, if_pos (Finset.mem_univ _)]

def rcvLoc : Fin 15 ↪ SemLoc sig := ⟨fun t => .dma (rcvS t), fun _ _ h => rcvS_injective (SemLoc.dma.inj h)⟩

/-- The credit a device is given at launch. -/
theorem creds (c : Dev nD) :
    (Pipeline.launchCred O₀ c : sProp 𝕄) ⊢ iprop(cred (tallyAt (barCell c) () 3) ∗ bigSep Finset.univ fun t => cred (tallyAt (rcvCell t c) () (amt t))) := by
  unfold Pipeline.launchCred
  rw [bigSep_univ_at _ (SemLoc.reg barS), launch_bar]
  have hsub : Finset.univ.map rcvLoc ⊆ Finset.univ.erase (SemLoc.reg barS) := fun x hx => by
    obtain ⟨t, -, rfl⟩ := Finset.mem_map.1 hx
    exact Finset.mem_erase.2 ⟨fun h => (by cases h), Finset.mem_univ _⟩
  refine sep_mono_right ((BI.bigSep_subset hsub).trans ?_)
  rw [bigSep_map]
  exact bigSep_mono fun t _ => Entails.of_eq (congrArg cred (launch_rcv t c))

end Cert.Cube

end
-- ==== Proof.Facts.lean ====
/-
# Facts about the contents

The working copy of `B` that the kernel builds column block by column block is `B` in the end; the result does not depend on what its buffer held
before; and the neighbours the kernel computes are those of the cube.
-/
module

public import proofs.«01_k».proof.Proof.Contents
public import Idealize.ShloMosaic.Lib.Pointwise.Reshape

@[expose] public section

noncomputable section

namespace Cert.Cube

open Cert.KernelIdeal Cert.KernelIdeal.Gen
open Idealize.ShloMosaic
open Idealize.ShloMosaic.VecWindow

variable {F : FTy → Type} [FloatOps F]

theorem pay1_eq (w : Vec F S1024x768 .bf16) : k0_pay1 w = w := by
  unfold k0_pay1; simp only [shapeCast_id]
theorem pay3_eq (w : Vec F S1024x768 .bf16) : k0_pay3 w = w := by
  unfold k0_pay3; simp only [shapeCast_id]
theorem pay5_eq (w : Vec F S1024x512 .bf16) : k0_pay5 w = w := by
  unfold k0_pay5; simp only [shapeCast_id]

variable (B : Dev nD → Vec F S1024x2048 .bf16)

/-- The working copy of `B` after one, two and three column blocks. -/
abbrev b1 (c : Dev nD) (y : Vec F S1024x2048 .bf16) : Vec F S1024x2048 .bf16 :=
  put y ![0, 0] S1024x768.size (window (B c) ![0, 0] S1024x768.size inb_S1024x2048_S1024x768_0_0)
abbrev b2 (c : Dev nD) (y : Vec F S1024x2048 .bf16) : Vec F S1024x2048 .bf16 :=
  put (b1 B c y) ![0, 768] S1024x768.size (window (B c) ![0, 768] S1024x768.size inb_S1024x2048_S1024x768_0_768)
abbrev b3 (c : Dev nD) (y : Vec F S1024x2048 .bf16) : Vec F S1024x2048 .bf16 :=
  put (b2 B c y) ![0, 1536] S1024x512.size (window (B c) ![0, 1536] S1024x512.size inb_S1024x2048_S1024x512_0_1536)

/-- A box of a vector put back where it came from leaves the vector's own value there. -/
theorem put_window_in {s : Shape} {α : Type} (x y : s.Idx → α) (off size : Fin s.rank → ℕ) (inb : ∀ a, off a + size a ≤ s.size a) (i : s.Idx)
    (h : ∀ a, off a ≤ (i a).val ∧ (i a).val < off a + size a) : put y off size (window x off size inb) i = x i := by
  show dite _ _ _ = _
  rw [dif_pos h]
  show x _ = x i
  congr 1
  funext a
  apply Fin.ext
  show off a + 1 * ((i a).val - off a) = _
  have := h a
  rw [Nat.one_mul]
  omega

/-- Outside the box nothing changes. -/
theorem put_out {s : Shape} {α : Type} (y : s.Idx → α) (off size : Fin s.rank → ℕ) (w : ((a : Fin s.rank) → Fin (size a)) → α) (i : s.Idx)
    (h : ¬ ∀ a, off a ≤ (i a).val ∧ (i a).val < off a + size a) : put y off size w i = y i := by
  show dite _ _ _ = _
  rw [dif_neg h]

theorem b3_eq (c : Dev nD) (y : Vec F S1024x2048 .bf16) : b3 B c y = B c := by
  funext i
  have h0 : (i 0).val < 1024 := (i 0).isLt
  have h1 : (i 1).val < 2048 := (i 1).isLt
  by_cases h : 1536 ≤ (i 1).val
  · exact put_window_in (s := S1024x2048) (B c) _ _ _ _ i (by intro a; match a with | 0 => exact ⟨Nat.zero_le _, by show _ < 0 + 1024; omega⟩ | 1 => exact ⟨h, by show _ < 1536 + 512; omega⟩)
  · refine (put_out (s := S1024x2048) _ _ _ _ i (fun hh => h (hh 1).1)).trans ?_
    by_cases h' : 768 ≤ (i 1).val
    · exact put_window_in (s := S1024x2048) (B c) _ _ _ _ i (by intro a; match a with | 0 => exact ⟨Nat.zero_le _, by show _ < 0 + 1024; omega⟩ | 1 => exact ⟨h', by show _ < 768 + 768; omega⟩)
    · refine (put_out (s := S1024x2048) _ _ _ _ i (fun hh => h' (hh 1).1)).trans ?_
      exact put_window_in (s := S1024x2048) (B c) _ _ _ _ i (by intro a; match a with | 0 => exact ⟨Nat.zero_le _, by show _ < 0 + 1024; omega⟩ | 1 => exact ⟨Nat.zero_le _, by show _ < 0 + 768; omega⟩)

variable (A : Dev nD → Vec F S2048x1024 .bf16)

/-- The three pieces cover the result: what its buffer held before does not matter. -/
theorem outOn_eq (c : Dev nD) (z : Vec F S256x2048 .f32) : outOn A B c z = outAt A B c := by
  funext i
  have h0 : (i 0).val < 256 := (i 0).isLt
  have h1 : (i 1).val < 2048 := (i 1).isLt
  show dite _ _ _ = dite _ _ _
  split
  · rfl
  rename_i ha
  show dite _ _ _ = dite _ _ _
  split
  · rfl
  rename_i hb
  show dite _ _ _ = dite _ _ _
  split
  · rfl
  rename_i hc
  exfalso
  by_cases h : 1536 ≤ (i 1).val
  · exact ha (by intro a; match a with | 0 => exact ⟨Nat.zero_le _, by show _ < 0 + 256; omega⟩ | 1 => exact ⟨h, by show _ < 1536 + 512; omega⟩)
  by_cases h' : 768 ≤ (i 1).val
  · exact hb (by intro a; match a with | 0 => exact ⟨Nat.zero_le _, by show _ < 0 + 256; omega⟩ | 1 => exact ⟨h', by show _ < 768 + 768; omega⟩)
  · exact hc (by intro a; match a with | 0 => exact ⟨Nat.zero_le _, by show _ < 0 + 256; omega⟩ | 1 => exact ⟨Nat.zero_le _, by show _ < 0 + 768; omega⟩)

/-! ## The neighbours -/

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 0 c := by decide +kernel
theorem dev5_eq : ∀ c : Dev nD, (⟨k0_dev5 c, k0_dev5_lt c⟩ : Dev nD) = peer 1 c := by decide +kernel
theorem dev6_eq : ∀ c : Dev nD, (⟨k0_dev6 c, k0_dev6_lt c⟩ : Dev nD) = peer 2 c := by decide +kernel
theorem dev7_eq : ∀ c : Dev nD, (⟨k0_dev7 c, k0_dev7_lt c⟩ : Dev nD) = peer 0 c := by decide +kernel
theorem dev8_eq : ∀ c : Dev nD, (⟨k0_dev8 c, k0_dev8_lt c⟩ : Dev nD) = peer 1 c := by decide +kernel
theorem dev9_eq : ∀ c : Dev nD, (⟨k0_dev9 c, k0_dev9_lt c⟩ : Dev nD) = peer 2 c := by decide +kernel
theorem dev10_eq : ∀ c : Dev nD, (⟨k0_dev10 c, k0_dev10_lt c⟩ : Dev nD) = peer 0 c := by decide +kernel
theorem dev11_eq : ∀ c : Dev nD, (⟨k0_dev11 c, k0_dev11_lt c⟩ : Dev nD) = peer 1 c := by decide +kernel
theorem dev12_eq : ∀ c : Dev nD, (⟨k0_dev12 c, k0_dev12_lt c⟩ : Dev nD) = peer 2 c := by decide +kernel
theorem dev13_eq : ∀ c : Dev nD, (⟨k0_dev13 c, k0_dev13_lt c⟩ : Dev nD) = peer 2 c := by decide +kernel
theorem dev14_eq : ∀ c : Dev nD, (⟨k0_dev14 c, k0_dev14_lt c⟩ : Dev nD) = peer 0 c := by decide +kernel
theorem dev15_eq : ∀ c : Dev nD, (⟨k0_dev15 c, k0_dev15_lt c⟩ : Dev nD) = peer 1 c := by decide +kernel
theorem dev16_eq : ∀ c : Dev nD, (⟨k0_dev16 c, k0_dev16_lt c⟩ : Dev nD) = peer 2 c := by decide +kernel
theorem dev17_eq : ∀ c : Dev nD, (⟨k0_dev17 c, k0_dev17_lt c⟩ : Dev nD) = peer 0 c := by decide +kernel
theorem dev18_eq : ∀ c : Dev nD, (⟨k0_dev18 c, k0_dev18_lt c⟩ : Dev nD) = peer 1 c := by decide +kernel

end Cert.Cube

end
-- ==== Proof.Regions.lean ====
/-
# The regions of the buffers, one by one

The source region and the target region of every copy, with given or with any contents, and how the buffers are cut into them.
-/
module

public import proofs.«01_k».proof.Proof.Steps
public import proofs.«01_k».proof.Proof.Facts

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

theorem reg_sub {sp : Space} {s : Shape} {e : EltTy} (M : Memref sig .tc sp s e) {off size : Fin s.rank → ℕ} (inb : ∀ a, off a + size a ≤ s.size a) :
    reg M off size inb ⊆ M.view.set := Finset.map_subset_map.2 (Finset.subset_univ _)

/-- The source region of copy `t` on device `c`, with any contents. -/
def room (t : Fin 15) (c : Dev nD) : sProp 𝕄 := match t with
  | 0 => iprop(∃ y, held (F := F) c M4 (reg M4 ![0, 0] S256x768.size inb_S256x2048_S256x768_0_0) y)
  | 1 => iprop(∃ y, held (F := F) c M4 (reg M4 ![0, 768] S256x768.size inb_S256x2048_S256x768_0_768) y)
  | 2 => iprop(∃ y, held (F := F) c M4 (reg M4 ![0, 1536] S256x512.size inb_S256x2048_S256x512_0_1536) y)
  | 3 => iprop(∃ y, held (F := F) c M8 (reg M8 ![0, 0, 0] S1x256x1536.size inb_S3x256x2048_S1x256x1536_0_0_0) y)
  | 4 => iprop(∃ y, held (F := F) c M8 (reg M8 ![0, 0, 1536] S1x256x512.size inb_S3x256x2048_S1x256x512_0_0_1536) y)
  | 5 => iprop(∃ y, held (F := F) c M8 (reg M8 ![1, 0, 768] S1x256x1280.size inb_S3x256x2048_S1x256x1280_1_0_768) y)
  | 6 => iprop(∃ y, held (F := F) c M8 (reg M8 ![1, 0, 0] S1x256x768.size inb_S3x256x2048_S1x256x768_1_0_0) y)
  | 7 => iprop(∃ y, held (F := F) c M8 (reg M8 ![2, 0, 0] S1x256x768.size inb_S3x256x2048_S1x256x768_2_0_0) y)
  | 8 => iprop(∃ y, held (F := F) c M8 (reg M8 ![2, 0, 768] S1x256x1280.size inb_S3x256x2048_S1x256x1280_2_0_768) y)
  | 9 => iprop(∃ y, held (F := F) c M10 (reg M10 ![0, 0, 0] S1x256x768.size inb_S3x256x2048_S1x256x768_0_0_0) y)
  | 10 => iprop(∃ y, held (F := F) c M10 (reg M10 ![0, 0, 768] S1x256x1280.size inb_S3x256x2048_S1x256x1280_0_0_768) y)
  | 11 => iprop(∃ y, held (F := F) c M10 (reg M10 ![1, 0, 0] S1x256x1536.size inb_S3x256x2048_S1x256x1536_1_0_0) y)
  | 12 => iprop(∃ y, held (F := F) c M10 (reg M10 ![1, 0, 1536] S1x256x512.size inb_S3x256x2048_S1x256x512_1_0_1536) y)
  | 13 => iprop(∃ y, held (F := F) c M10 (reg M10 ![2, 0, 768] S1x256x1280.size inb_S3x256x2048_S1x256x1280_2_0_768) y)
  | 14 => iprop(∃ y, held (F := F) c M10 (reg M10 ![2, 0, 0] S1x256x768.size inb_S3x256x2048_S1x256x768_2_0_0) y)

theorem room_0 (c : Dev nD) : room (F := F) 0 c = iprop(∃ y, held (F := F) c M4 (reg M4 ![0, 0] S256x768.size inb_S256x2048_S256x768_0_0) y) := rfl
theorem room_1 (c : Dev nD) : room (F := F) 1 c = iprop(∃ y, held (F := F) c M4 (reg M4 ![0, 768] S256x768.size inb_S256x2048_S256x768_0_768) y) := rfl
theorem room_2 (c : Dev nD) : room (F := F) 2 c = iprop(∃ y, held (F := F) c M4 (reg M4 ![0, 1536] S256x512.size inb_S256x2048_S256x512_0_1536) y) := rfl
theorem room_3 (c : Dev nD) : room (F := F) 3 c = iprop(∃ y, held (F := F) c M8 (reg M8 ![0, 0, 0] S1x256x1536.size inb_S3x256x2048_S1x256x1536_0_0_0) y) := rfl
theorem room_4 (c : Dev nD) : room (F := F) 4 c = iprop(∃ y, held (F := F) c M8 (reg M8 ![0, 0, 1536] S1x256x512.size inb_S3x256x2048_S1x256x512_0_0_1536) y) := rfl
theorem room_5 (c : Dev nD) : room (F := F) 5 c = iprop(∃ y, held (F := F) c M8 (reg M8 ![1, 0, 768] S1x256x1280.size inb_S3x256x2048_S1x256x1280_1_0_768) y) := rfl
theorem room_6 (c : Dev nD) : room (F := F) 6 c = iprop(∃ y, held (F := F) c M8 (reg M8 ![1, 0, 0] S1x256x768.size inb_S3x256x2048_S1x256x768_1_0_0) y) := rfl
theorem room_7 (c : Dev nD) : room (F := F) 7 c = iprop(∃ y, held (F := F) c M8 (reg M8 ![2, 0, 0] S1x256x768.size inb_S3x256x2048_S1x256x768_2_0_0) y) := rfl
theorem room_8 (c : Dev nD) : room (F := F) 8 c = iprop(∃ y, held (F := F) c M8 (reg M8 ![2, 0, 768] S1x256x1280.size inb_S3x256x2048_S1x256x1280_2_0_768) y) := rfl
theorem room_9 (c : Dev nD) : room (F := F) 9 c = iprop(∃ y, held (F := F) c M10 (reg M10 ![0, 0, 0] S1x256x768.size inb_S3x256x2048_S1x256x768_0_0_0) y) := rfl
theorem room_10 (c : Dev nD) : room (F := F) 10 c = iprop(∃ y, held (F := F) c M10 (reg M10 ![0, 0, 768] S1x256x1280.size inb_S3x256x2048_S1x256x1280_0_0_768) y) := rfl
theorem room_11 (c : Dev nD) : room (F := F) 11 c = iprop(∃ y, held (F := F) c M10 (reg M10 ![1, 0, 0] S1x256x1536.size inb_S3x256x2048_S1x256x1536_1_0_0) y) := rfl
theorem room_12 (c : Dev nD) : room (F := F) 12 c = iprop(∃ y, held (F := F) c M10 (reg M10 ![1, 0, 1536] S1x256x512.size inb_S3x256x2048_S1x256x512_1_0_1536) y) := rfl
theorem room_13 (c : Dev nD) : room (F := F) 13 c = iprop(∃ y, held (F := F) c M10 (reg M10 ![2, 0, 768] S1x256x1280.size inb_S3x256x2048_S1x256x1280_2_0_768) y) := rfl
theorem room_14 (c : Dev nD) : room (F := F) 14 c = iprop(∃ y, held (F := F) c M10 (reg M10 ![2, 0, 0] S1x256x768.size inb_S3x256x2048_S1x256x768_2_0_0) y) := rfl

section
variable (A : Dev nD → Vec F S2048x1024 .bf16) (B : Dev nD → Vec F S1024x2048 .bf16)

theorem sendPay_0 (c : Dev nD) : sendPay A B 0 c = held c M4 (reg M4 ![0, 0] S256x768.size inb_S256x2048_S256x768_0_0) (x0 A B c) := rfl
theorem sendPay_1 (c : Dev nD) : sendPay A B 1 c = held c M4 (reg M4 ![0, 768] S256x768.size inb_S256x2048_S256x768_0_768) (x1 A B c) := rfl
theorem sendPay_2 (c : Dev nD) : sendPay A B 2 c = held c M4 (reg M4 ![0, 1536] S256x512.size inb_S256x2048_S256x512_0_1536) (x2 A B c) := rfl
theorem sendPay_3 (c : Dev nD) : sendPay A B 3 c = held c M8 (reg M8 ![0, 0, 0] S1x256x1536.size inb_S3x256x2048_S1x256x1536_0_0_0) (x3 A B c) := rfl
theorem sendPay_4 (c : Dev nD) : sendPay A B 4 c = held c M8 (reg M8 ![0, 0, 1536] S1x256x512.size inb_S3x256x2048_S1x256x512_0_0_1536) (x4 A B c) := rfl
theorem sendPay_5 (c : Dev nD) : sendPay A B 5 c = held c M8 (reg M8 ![1, 0, 768] S1x256x1280.size inb_S3x256x2048_S1x256x1280_1_0_768) (x5 A B c) := rfl
theorem sendPay_6 (c : Dev nD) : sendPay A B 6 c = held c M8 (reg M8 ![1, 0, 0] S1x256x768.size inb_S3x256x2048_S1x256x768_1_0_0) (x6 A B c) := rfl
theorem sendPay_7 (c : Dev nD) : sendPay A B 7 c = held c M8 (reg M8 ![2, 0, 0] S1x256x768.size inb_S3x256x2048_S1x256x768_2_0_0) (x7 A B c) := rfl
theorem sendPay_8 (c : Dev nD) : sendPay A B 8 c = held c M8 (reg M8 ![2, 0, 768] S1x256x1280.size inb_S3x256x2048_S1x256x1280_2_0_768) (x8 A B c) := rfl
theorem sendPay_9 (c : Dev nD) : sendPay A B 9 c = held c M10 (reg M10 ![0, 0, 0] S1x256x768.size inb_S3x256x2048_S1x256x768_0_0_0) (x9 A B c) := rfl
theorem sendPay_10 (c : Dev nD) : sendPay A B 10 c = held c M10 (reg M10 ![0, 0, 768] S1x256x1280.size inb_S3x256x2048_S1x256x1280_0_0_768) (x10 A B c) := rfl
theorem sendPay_11 (c : Dev nD) : sendPay A B 11 c = held c M10 (reg M10 ![1, 0, 0] S1x256x1536.size inb_S3x256x2048_S1x256x1536_1_0_0) (x11 A B c) := rfl
theorem sendPay_12 (c : Dev nD) : sendPay A B 12 c = held c M10 (reg M10 ![1, 0, 1536] S1x256x512.size inb_S3x256x2048_S1x256x512_1_0_1536) (x12 A B c) := rfl
theorem sendPay_13 (c : Dev nD) : sendPay A B 13 c = held c M10 (reg M10 ![2, 0, 768] S1x256x1280.size inb_S3x256x2048_S1x256x1280_2_0_768) (x13 A B c) := rfl
theorem sendPay_14 (c : Dev nD) : sendPay A B 14 c = held c M10 (reg M10 ![2, 0, 0] S1x256x768.size inb_S3x256x2048_S1x256x768_2_0_0) (x14 A B c) := rfl

theorem recvPay_0 (c : Dev nD) : recvPay A B 0 c = held c M5 M5.view.set (window (x0 A B (peer 0 c)) ![0, 0] S256x768.size inb_S256x2048_S256x768_0_0) := rfl
theorem recvPay_1 (c : Dev nD) : recvPay A B 1 c = held c M6 M6.view.set (window (x1 A B (peer 1 c)) ![0, 768] S256x768.size inb_S256x2048_S256x768_0_768) := rfl
theorem recvPay_2 (c : Dev nD) : recvPay A B 2 c = held c M7 M7.view.set (window (x2 A B (peer 2 c)) ![0, 1536] S256x512.size inb_S256x2048_S256x512_0_1536) := rfl
theorem recvPay_3 (c : Dev nD) : recvPay A B 3 c = held c M9 (reg M9 ![0, 0, 0] S1x256x1536.size inb_S3x256x2048_S1x256x1536_0_0_0) (x3 A B (peer 0 c)) := rfl
theorem recvPay_4 (c : Dev nD) : recvPay A B 4 c = held c M9 (reg M9 ![0, 0, 1536] S1x256x512.size inb_S3x256x2048_S1x256x512_0_0_1536) (x4 A B (peer 0 c)) := rfl
theorem recvPay_5 (c : Dev nD) : recvPay A B 5 c = held c M9 (reg M9 ![1, 0, 768] S1x256x1280.size inb_S3x256x2048_S1x256x1280_1_0_768) (x5 A B (peer 1 c)) := rfl
theorem recvPay_6 (c : Dev nD) : recvPay A B 6 c = held c M9 (reg M9 ![1, 0, 0] S1x256x768.size inb_S3x256x2048_S1x256x768_1_0_0) (x6 A B (peer 1 c)) := rfl
theorem recvPay_7 (c : Dev nD) : recvPay A B 7 c = held c M9 (reg M9 ![2, 0, 0] S1x256x768.size inb_S3x256x2048_S1x256x768_2_0_0) (x7 A B (peer 2 c)) := rfl
theorem recvPay_8 (c : Dev nD) : recvPay A B 8 c = held c M9 (reg M9 ![2, 0, 768] S1x256x1280.size inb_S3x256x2048_S1x256x1280_2_0_768) (x8 A B (peer 2 c)) := rfl
theorem recvPay_9 (c : Dev nD) : recvPay A B 9 c = held c M11 (reg M11 ![0, 0, 0] S1x256x768.size inb_S3x256x2048_S1x256x768_0_0_0) (x9 A B (peer 0 c)) := rfl
theorem recvPay_10 (c : Dev nD) : recvPay A B 10 c = held c M11 (reg M11 ![0, 0, 768] S1x256x1280.size inb_S3x256x2048_S1x256x1280_0_0_768) (x10 A B (peer 0 c)) := rfl
theorem recvPay_11 (c : Dev nD) : recvPay A B 11 c = held c M11 (reg M11 ![1, 0, 0] S1x256x1536.size inb_S3x256x2048_S1x256x1536_1_0_0) (x11 A B (peer 1 c)) := rfl
theorem recvPay_12 (c : Dev nD) : recvPay A B 12 c = held c M11 (reg M11 ![1, 0, 1536] S1x256x512.size inb_S3x256x2048_S1x256x512_1_0_1536) (x12 A B (peer 1 c)) := rfl
theorem recvPay_13 (c : Dev nD) : recvPay A B 13 c = held c M11 (reg M11 ![2, 0, 768] S1x256x1280.size inb_S3x256x2048_S1x256x1280_2_0_768) (x13 A B (peer 2 c)) := rfl
theorem recvPay_14 (c : Dev nD) : recvPay A B 14 c = held c M11 (reg M11 ![2, 0, 0] S1x256x768.size inb_S3x256x2048_S1x256x768_2_0_0) (x14 A B (peer 2 c)) := rfl

theorem room_of_send (t : Fin 15) (c : Dev nD) : sendPay A B t c ⊢ room t c := by
  unfold sendPay room; split <;> (iintro H; iexists _; iexact H)

theorem hole_of_recv (t : Fin 15) (c : Dev nD) : recvPay A B t c ⊢ hole t c := by
  unfold recvPay landPay hole; split <;> (iintro H; iexists _; iexact H)

/-- Copy `t`, arrived at `c`: what it brought, and its cell at zero. -/
def Got (t : Fin 15) (c : Dev nD) : sProp 𝕄 := iprop(recvPay A B t c ∗ DoneR t c)
end

/-- Copy `t`, completed on its sender `c`: its source region back, and its cell at zero. -/
def Back (t : Fin 15) (c : Dev nD) : sProp 𝕄 := iprop(room t c ∗ DoneS t c)

end Cert.Cube

end
-- ==== Proof.Cuts.lean ====
/-
# Cutting the buffers into the regions of the copies

A box is cut in two along one axis; the five scratch buffers that copies read or fill are cut into the copies' regions, and put together again.
-/
module

public import proofs.«01_k».proof.Proof.Regions

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-- Device `c` owns elements `S` of `M`'s buffer, with any contents. -/
abbrev any (c : Dev nD) {sp : Space} {s : Shape} {e : EltTy} (M : Memref sig .tc sp s e) (S : Finset M.view.ty.Idx) : sProp 𝕄 :=
  iprop(∃ x, held (F := F) c M S x)

section
variable {sp : Space} {s : Shape} {e : EltTy} (M : Memref sig .tc sp s e)

/-- The box `off`/`size` consists of the box `off₁`/`size₁` and, behind it along axis `k`, the box `off₂`/`size₂`. -/
def CutAt (k : Fin s.rank) (off size off₁ size₁ off₂ size₂ : Fin s.rank → ℕ) : Prop :=
  ∀ a, (a = k → off₁ a = off a ∧ off₂ a = off₁ a + size₁ a ∧ size a = size₁ a + size₂ a)
    ∧ (a ≠ k → off₁ a = off a ∧ off₂ a = off a ∧ size₁ a = size a ∧ size₂ a = size a)

instance (k : Fin s.rank) (off size off₁ size₁ off₂ size₂ : Fin s.rank → ℕ) : Decidable (CutAt k off size off₁ size₁ off₂ size₂) := by
  unfold CutAt; infer_instance

variable {off size off₁ size₁ off₂ size₂ : Fin s.rank → ℕ} {inb : ∀ a, off a + size a ≤ s.size a}
  {inb₁ : ∀ a, off₁ a + size₁ a ≤ s.size a} {inb₂ : ∀ a, off₂ a + size₂ a ≤ s.size a} {k : Fin s.rank}

theorem reg_cut (h : CutAt k off size off₁ size₁ off₂ size₂) :
    reg M off size inb = reg M off₁ size₁ inb₁ ∪ reg M off₂ size₂ inb₂ := by
  show Finset.map _ _ = Finset.map _ _ ∪ Finset.map _ _
  rw [← Finset.map_union]
  congr 1
  ext y
  rw [Finset.mem_union, Rect.mem_set_unit, Rect.mem_set_unit, Rect.mem_set_unit]
  constructor
  · intro hy
    rcases Nat.lt_or_ge (y k).val (off₁ k + size₁ k) with hk | hk
    · refine Or.inl fun a => ?_
      have := hy a
      by_cases ha : a = k
      · have h1 := (h a).1 ha
        subst ha; omega
      · have h1 := (h a).2 ha; omega
    · refine Or.inr fun a => ?_
      have := hy a
      by_cases ha : a = k
      · have h1 := (h a).1 ha
        subst ha; omega
      · have h1 := (h a).2 ha; omega
  · rintro (hy | hy) <;> intro a <;> have := hy a <;> by_cases ha : a = k
    · have h1 := (h a).1 ha; omega
    · have h1 := (h a).2 ha; omega
    · have h1 := (h a).1 ha; omega
    · have h1 := (h a).2 ha; omega

theorem reg_disjoint (h : CutAt k off size off₁ size₁ off₂ size₂) : Disjoint (reg M off₁ size₁ inb₁) (reg M off₂ size₂ inb₂) := by
  show Disjoint (Finset.map _ _) (Finset.map _ _)
  rw [Finset.disjoint_map]
  refine Finset.disjoint_left.2 fun y h1 h2 => ?_
  rw [Rect.mem_set_unit] at h1 h2
  have := h1 k; have := h2 k; have := (h k).1 rfl
  omega

/-- The box that is everything covers the whole buffer's elements. -/
theorem reg_all (h : ∀ a, off a = 0 ∧ size a = s.size a) : reg M off size inb = M.view.set := by
  show Finset.map _ _ = Finset.map _ _
  congr 1
  ext y
  rw [Rect.mem_set_unit]
  refine ⟨fun _ => Finset.mem_univ _, fun _ a => ?_⟩
  have := h a; have : (y a).val < s.size a := (y a).isLt; omega

/-- What is held on a box is held on its two parts. -/
theorem held_cut (c : Dev nD) (h : CutAt k off size off₁ size₁ off₂ size₂) (x : s.Idx → Elt F e) :
    (held c M (reg M off size inb) x : sProp 𝕄) ⊢ iprop(held c M (reg M off₁ size₁ inb₁) x ∗ held c M (reg M off₂ size₂ inb₂) x) := by
  unfold held
  rw [reg_cut M (inb₁ := inb₁) (inb₂ := inb₂) h]
  exact (pointsTo_union (reg_disjoint M h)).1

/-- Any contents on a box, and any contents on its two parts, are the same. -/
theorem any_cut (hM : M.IsWhole) (c : Dev nD) (h : CutAt k off size off₁ size₁ off₂ size₂) :
    (any (F := F) c M (reg M off size inb)) = iprop(any c M (reg M off₁ size₁ inb₁) ∗ any c M (reg M off₂ size₂ inb₂)) := by
  refine Entails.antisymm ?_ ?_
  · show (_ : sProp 𝕄) ⊢ _
    unfold any
    iintro ⟨%x, H⟩
    ihave H := (held_cut M (inb₁ := inb₁) (inb₂ := inb₂) c h x) $$ H
    icases H with ⟨H1, H2⟩
    isplitl [H1]
    · iexists x; iexact H1
    · iexists x; iexact H2
  · show (_ : sProp 𝕄) ⊢ _
    unfold any
    iintro ⟨⟨%x, H1⟩, ⟨%y, H2⟩⟩
    unfold held
    ihave H := (pointsTo_join (ℓ := M.view.loc (c : Thread nD τ)) (reg_disjoint M (inb₁ := inb₁) (inb₂ := inb₂) h)) $$ [H1 H2]
    · isplitl [H1]; · iexact H1
      iexact H2
    rw [← reg_cut M (inb := inb) (inb₁ := inb₁) (inb₂ := inb₂) h]
    ihave H := (Entails.of_eq (held_of_pointsTo M hM c _ _)) $$ H
    iexists _; unfold held; iexact H

/-- A whole buffer, with any contents. -/
theorem any_whole (c : Dev nD) (b : Ref sig .tc) :
    (any (F := F) c (Memref.whole b) (Memref.whole b).view.set) = iprop(∃ f : Buf (Elt F) ((c : Thread nD τ).loc b), ((c : Thread nD τ).loc b) ↦{fullShare} f) := by
  refine Entails.antisymm ?_ ?_
  · show (_ : sProp 𝕄) ⊢ _
    unfold any held
    iintro ⟨%x, H⟩
    iexists _
    simp only [Memref.view_whole, View.set_whole]
    iexact H
  · show (_ : sProp 𝕄) ⊢ _
    unfold any
    iintro ⟨%f, H⟩
    iexists ((Memref.whole b).view.read (Elt F) f)
    rw [← held_of_pointsTo (Memref.whole b) (Memref.isWhole_whole _) c (Memref.whole b).view.set f]
    simp only [Memref.view_whole, View.set_whole]
    iexact H

end

section
variable (c : Dev nD)

/-- The first scratch buffer of sums is the source regions of copies 0, 1 and 2. -/
theorem cut_M4 : any (F := F) c M4 M4.view.set = iprop(room 0 c ∗ room 1 c ∗ room 2 c) := by
  rw [← reg_all M4 (off := ![0, 0]) (size := ![256, 2048]) (inb := by decide) (by decide),
    any_cut M4 (Memref.isWhole_whole _) (k := 1) (off := ![0, 0]) (size := ![256, 2048]) (inb := by decide) (off₁ := ![0, 0]) (size₁ := S256x768.size) (inb₁ := inb_S256x2048_S256x768_0_0)
      (off₂ := ![0, 768]) (size₂ := ![256, 1280]) (inb₂ := by decide) c (by decide),
    any_cut M4 (Memref.isWhole_whole _) (k := 1) (off := ![0, 768]) (size := ![256, 1280]) (inb := by decide) (off₁ := ![0, 768]) (size₁ := S256x768.size) (inb₁ := inb_S256x2048_S256x768_0_768)
      (off₂ := ![0, 1536]) (size₂ := S256x512.size) (inb₂ := inb_S256x2048_S256x512_0_1536) c (by decide)]
  rfl

/-- A buffer of three rows is its three rows. -/
theorem rows (M : Memref sig .tc .vmem S3x256x2048 .bf16) (hM : M.IsWhole) : any (F := F) c M M.view.set
    = iprop(any c M (reg M ![0, 0, 0] S1x256x2048.size inb_S3x256x2048_S1x256x2048_0_0_0)
      ∗ any c M (reg M ![1, 0, 0] S1x256x2048.size inb_S3x256x2048_S1x256x2048_1_0_0) ∗ any c M (reg M ![2, 0, 0] S1x256x2048.size inb_S3x256x2048_S1x256x2048_2_0_0)) := by
  rw [← reg_all M (off := ![0, 0, 0]) (size := ![3, 256, 2048]) (inb := by decide) (by decide),
    any_cut M hM (k := 0) (off := ![0, 0, 0]) (size := ![3, 256, 2048]) (inb := by decide) (off₁ := ![0, 0, 0]) (size₁ := S1x256x2048.size) (inb₁ := inb_S3x256x2048_S1x256x2048_0_0_0)
      (off₂ := ![1, 0, 0]) (size₂ := ![2, 256, 2048]) (inb₂ := by decide) c (by decide),
    any_cut M hM (k := 0) (off := ![1, 0, 0]) (size := ![2, 256, 2048]) (inb := by decide) (off₁ := ![1, 0, 0]) (size₁ := S1x256x2048.size) (inb₁ := inb_S3x256x2048_S1x256x2048_1_0_0)
      (off₂ := ![2, 0, 0]) (size₂ := S1x256x2048.size) (inb₂ := inb_S3x256x2048_S1x256x2048_2_0_0) c (by decide)]

/-- `M8` is the source regions of copies 3 to 8. -/
theorem cut_M8 : any (F := F) c M8 M8.view.set = iprop((room 3 c ∗ room 4 c) ∗ (room 6 c ∗ room 5 c) ∗ (room 7 c ∗ room 8 c)) := by
  rw [rows c M8 (Memref.isWhole_whole _),
    any_cut M8 (Memref.isWhole_whole _) (k := 2) (off := ![0, 0, 0]) (size := S1x256x2048.size) (inb := inb_S3x256x2048_S1x256x2048_0_0_0) (off₁ := ![0, 0, 0]) (size₁ := S1x256x1536.size) (inb₁ := inb_S3x256x2048_S1x256x1536_0_0_0) (off₂ := ![0, 0, 1536]) (size₂ := S1x256x512.size) (inb₂ := inb_S3x256x2048_S1x256x512_0_0_1536) c (by decide),
    any_cut M8 (Memref.isWhole_whole _) (k := 2) (off := ![1, 0, 0]) (size := S1x256x2048.size) (inb := inb_S3x256x2048_S1x256x2048_1_0_0) (off₁ := ![1, 0, 0]) (size₁ := S1x256x768.size) (inb₁ := inb_S3x256x2048_S1x256x768_1_0_0) (off₂ := ![1, 0, 768]) (size₂ := S1x256x1280.size) (inb₂ := inb_S3x256x2048_S1x256x1280_1_0_768) c (by decide),
    any_cut M8 (Memref.isWhole_whole _) (k := 2) (off := ![2, 0, 0]) (size := S1x256x2048.size) (inb := inb_S3x256x2048_S1x256x2048_2_0_0) (off₁ := ![2, 0, 0]) (size₁ := S1x256x768.size) (inb₁ := inb_S3x256x2048_S1x256x768_2_0_0) (off₂ := ![2, 0, 768]) (size₂ := S1x256x1280.size) (inb₂ := inb_S3x256x2048_S1x256x1280_2_0_768) c (by decide)]
  rfl

/-- `M9` is the target regions of copies 3 to 8. -/
theorem cut_M9 : any (F := F) c M9 M9.view.set = iprop((hole 3 c ∗ hole 4 c) ∗ (hole 6 c ∗ hole 5 c) ∗ (hole 7 c ∗ hole 8 c)) := by
  rw [rows c M9 (Memref.isWhole_whole _),
    any_cut M9 (Memref.isWhole_whole _) (k := 2) (off := ![0, 0, 0]) (size := S1x256x2048.size) (inb := inb_S3x256x2048_S1x256x2048_0_0_0) (off₁ := ![0, 0, 0]) (size₁ := S1x256x1536.size) (inb₁ := inb_S3x256x2048_S1x256x1536_0_0_0) (off₂ := ![0, 0, 1536]) (size₂ := S1x256x512.size) (inb₂ := inb_S3x256x2048_S1x256x512_0_0_1536) c (by decide),
    any_cut M9 (Memref.isWhole_whole _) (k := 2) (off := ![1, 0, 0]) (size := S1x256x2048.size) (inb := inb_S3x256x2048_S1x256x2048_1_0_0) (off₁ := ![1, 0, 0]) (size₁ := S1x256x768.size) (inb₁ := inb_S3x256x2048_S1x256x768_1_0_0) (off₂ := ![1, 0, 768]) (size₂ := S1x256x1280.size) (inb₂ := inb_S3x256x2048_S1x256x1280_1_0_768) c (by decide),
    any_cut M9 (Memref.isWhole_whole _) (k := 2) (off := ![2, 0, 0]) (size := S1x256x2048.size) (inb := inb_S3x256x2048_S1x256x2048_2_0_0) (off₁ := ![2, 0, 0]) (size₁ := S1x256x768.size) (inb₁ := inb_S3x256x2048_S1x256x768_2_0_0) (off₂ := ![2, 0, 768]) (size₂ := S1x256x1280.size) (inb₂ := inb_S3x256x2048_S1x256x1280_2_0_768) c (by decide)]
  rfl

/-- `M10` is the source regions of copies 9 to 14. -/
theorem cut_M10 : any (F := F) c M10 M10.view.set = iprop((room 9 c ∗ room 10 c) ∗ (room 11 c ∗ room 12 c) ∗ (room 14 c ∗ room 13 c)) := by
  rw [rows c M10 (Memref.isWhole_whole _),
    any_cut M10 (Memref.isWhole_whole _) (k := 2) (off := ![0, 0, 0]) (size := S1x256x2048.size) (inb := inb_S3x256x2048_S1x256x2048_0_0_0) (off₁ := ![0, 0, 0]) (size₁ := S1x256x768.size) (inb₁ := inb_S3x256x2048_S1x256x768_0_0_0) (off₂ := ![0, 0, 768]) (size₂ := S1x256x1280.size) (inb₂ := inb_S3x256x2048_S1x256x1280_0_0_768) c (by decide),
    any_cut M10 (Memref.isWhole_whole _) (k := 2) (off := ![1, 0, 0]) (size := S1x256x2048.size) (inb := inb_S3x256x2048_S1x256x2048_1_0_0) (off₁ := ![1, 0, 0]) (size₁ := S1x256x1536.size) (inb₁ := inb_S3x256x2048_S1x256x1536_1_0_0) (off₂ := ![1, 0, 1536]) (size₂ := S1x256x512.size) (inb₂ := inb_S3x256x2048_S1x256x512_1_0_1536) c (by decide),
    any_cut M10 (Memref.isWhole_whole _) (k := 2) (off := ![2, 0, 0]) (size := S1x256x2048.size) (inb := inb_S3x256x2048_S1x256x2048_2_0_0) (off₁ := ![2, 0, 0]) (size₁ := S1x256x768.size) (inb₁ := inb_S3x256x2048_S1x256x768_2_0_0) (off₂ := ![2, 0, 768]) (size₂ := S1x256x1280.size) (inb₂ := inb_S3x256x2048_S1x256x1280_2_0_768) c (by decide)]
  rfl

/-- `M11` is the target regions of copies 9 to 14. -/
theorem cut_M11 : any (F := F) c M11 M11.view.set = iprop((hole 9 c ∗ hole 10 c) ∗ (hole 11 c ∗ hole 12 c) ∗ (hole 14 c ∗ hole 13 c)) := by
  rw [rows c M11 (Memref.isWhole_whole _),
    any_cut M11 (Memref.isWhole_whole _) (k := 2) (off := ![0, 0, 0]) (size := S1x256x2048.size) (inb := inb_S3x256x2048_S1x256x2048_0_0_0) (off₁ := ![0, 0, 0]) (size₁ := S1x256x768.size) (inb₁ := inb_S3x256x2048_S1x256x768_0_0_0) (off₂ := ![0, 0, 768]) (size₂ := S1x256x1280.size) (inb₂ := inb_S3x256x2048_S1x256x1280_0_0_768) c (by decide),
    any_cut M11 (Memref.isWhole_whole _) (k := 2) (off := ![1, 0, 0]) (size := S1x256x2048.size) (inb := inb_S3x256x2048_S1x256x2048_1_0_0) (off₁ := ![1, 0, 0]) (size₁ := S1x256x1536.size) (inb₁ := inb_S3x256x2048_S1x256x1536_1_0_0) (off₂ := ![1, 0, 1536]) (size₂ := S1x256x512.size) (inb₂ := inb_S3x256x2048_S1x256x512_1_0_1536) c (by decide),
    any_cut M11 (Memref.isWhole_whole _) (k := 2) (off := ![2, 0, 0]) (size := S1x256x2048.size) (inb := inb_S3x256x2048_S1x256x2048_2_0_0) (off₁ := ![2, 0, 0]) (size₁ := S1x256x768.size) (inb₁ := inb_S3x256x2048_S1x256x768_2_0_0) (off₂ := ![2, 0, 768]) (size₂ := S1x256x1280.size) (inb₂ := inb_S3x256x2048_S1x256x1280_2_0_768) c (by decide)]
  rfl

end

end Cert.Cube

end
-- ==== Proof.PartsS.lean ====
/-
# The kernel's parts 1 to 4: the barrier, and the first phase computed
-/
module

public import proofs.«01_k».proof.Proof.Regions

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

variable (A : Dev nD → Vec F S2048x1024 .bf16) (B : Dev nD → Vec F S1024x2048 .bf16) (K : Dev nD × Fin 31 → ℕ)

/-- Part 1: the signals along links 0 and 1. -/
theorem part1 (c : Dev nD) (Kt : _ → sProp 𝕄) :
    iprop(Env A B K ∗ Owe c (O₀ c) ∗ BarTok 0 c ∗ BarTok 1 c ∗ holes 0 c ∗ holes 1 c
        ∗ (∀ v2, ∀ v3, ∀ v5, ∀ v7, ∀ v30, ∀ v32, Owe c (O₂ c) -∗ Kt ⟨c, v2, v3, v5, v7, SemArray.scalar (sig.barrier 0 rfl), v30, v32⟩))
      ⊢ wp frame (wpE (defs₀ (F := F)) 𝒱₀ (c : Thread nD τ) none) Set.univ (k0_part1 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14) Kt := by
  rw [k0_part1_eq_skeleton]; unfold k0_part1_skel
  simp only [semSignalWord, Prog.lift, Prog.bind_op, Prog.bind_ret, Prog.pure_eq_ret, wp_deviceId]
  unfold O₀ O₁
  iintro ⟨#HE, HO, Ht0, Ht1, Hh0, Hh1, Hk⟩
  iapply (signal_step A B K c _ 0 (dev1_eq c) _ (by decide)) $$ [HO Ht0 Hh0]
  · isplitr; · iexact HE
    isplitl [HO]; · iexact HO
    isplitl [Ht0]; · iexact Ht0
    iexact Hh0
  iintro HO
  iapply (signal_step A B K c _ 1 (dev2_eq c) _ (by decide)) $$ [HO Ht1 Hh1]
  · isplitr; · iexact HE
    isplitl [HO]; · iexact HO
    isplitl [Ht1]; · iexact Ht1
    iexact Hh1
  iintro HO
  rw [wp_ret]; imodintro
  iapply Hk
  iexact HO

/-- Part 2: the signal along link 2, the product for copy 0, and the barrier wait. -/
theorem part2 (c : Dev nD) (v3 v5 v7 v30 v32 : BitVec 32) (y : Vec F S1024x2048 .bf16) (Kt : _ → sProp 𝕄) :
    iprop(Env A B K ∗ Owe c (O₂ c) ∗ BarTok 2 c ∗ holes 2 c ∗ BarWait c ∗ held c M0 M0.view.set (A c) ∗ held c M1 M1.view.set (B c)
          ∗ held c M3 M3.view.set y ∗ room 0 c
        ∗ (∀ v, (Owes c ord ∗ holes 0 (peer 0 c) ∗ holes 1 (peer 1 c) ∗ holes 2 (peer 2 c) ∗ semVal (barCell c) 0 ∗ held c M0 M0.view.set (A c)
          ∗ held c M1 M1.view.set (B c) ∗ held c M3 M3.view.set (b1 B c y) ∗ sendPay A B 0 c) -∗ Kt v))
      ⊢ wp frame (wpE (defs₀ (F := F)) 𝒱₀ (c : Thread nD τ) none) Set.univ
          (k0_part2 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 (SemArray.scalar (sig.barrier 0 rfl)) v30 v32) Kt := by
  rw [k0_part2_eq_skeleton]; unfold k0_part2_skel
  simp only [semSignalWord, semWaitWord, Prog.lift, Prog.bind_op, Prog.bind_ret, Prog.pure_eq_ret, pay1_eq]
  unfold O₂
  iintro ⟨#HE, HO, Ht2, Hh2, Hbw, HA, HB, HW, HD0, Hk⟩
  iapply (signal_step A B K c _ 2 (dev3_eq c) _ (by decide)) $$ [HO Ht2 Hh2]
  · isplitr; · iexact HE
    isplitl [HO]; · iexact HO
    isplitl [Ht2]; · iexact Ht2
    iexact Hh2
  iintro HO
  iapply (load_at c M1 _ (reg_sub M1 _)) $$ HB; iintro HB
  iapply (load_at c M3 _ (reg_sub M3 _)) $$ HW; iintro HW
  iapply (store_at c M3 (Memref.isWhole_whole _) _ (reg_sub M3 _)) $$ HW; iintro HW
  iapply (load_at c M0 _ (reg_sub M0 _)) $$ HA; iintro HA
  iapply (load_put c M3 _ (reg_sub M3 _)) $$ HW; iintro HW
  ihave HD0 := (Entails.of_eq (room_0 c)) $$ HD0
  icases HD0 with ⟨%y0, HD0⟩
  iapply (load_at c M4 _ subset_rfl) $$ HD0; iintro HD0
  iapply (store_at c M4 (Memref.isWhole_whole _) _ subset_rfl) $$ HD0; iintro HD0
  ihave HD0 := (Entails.of_eq (held_put_base M4 c _ _ junk _)) $$ HD0
  ihave HD0 := (Entails.of_eq (sendPay_0 A B c).symm) $$ HD0
  iapply (bar_step A B K c (fun _ => by rfl)) $$ [Hbw HO]
  · isplitr; · iexact HE
    isplitl [Hbw]; · iexact Hbw
    iexact HO
  iintro ⟨HO, ⟨Hh0, Hh1, Hh2⟩, Hz⟩
  rw [wp_ret]; imodintro
  iapply Hk
  isplitl [HO]; · iexact HO
  isplitl [Hh0]; · iexact Hh0
  isplitl [Hh1]; · iexact Hh1
  isplitl [Hh2]; · iexact Hh2
  isplitl [Hz]; · iexact Hz
  isplitl [HA]; · iexact HA
  isplitl [HB]; · iexact HB
  isplitl [HW]; · iexact HW
  iexact HD0

/-- Part 3: copy 0 is issued, and the product for copy 1 computed. -/
theorem part3 (c : Dev nD) (v3 v5 v7 v44 v60 v63 : BitVec 32) (y : Vec F S1024x2048 .bf16) (Kt : _ → sProp 𝕄) :
    iprop(Env A B K ∗ sendPay A B 0 c ∗ Snd 0 c ∗ hole 0 (peer (lk 0) c) ∗ Owes c [0, 1, 2, 3, 5, 7, 4, 6, 8, 13, 9, 11, 14, 10, 12] ∗ held c M1 M1.view.set (B c) ∗ held c M3 M3.view.set (b1 B c y) ∗ held c M0 M0.view.set (A c) ∗ room 1 c
        ∗ (∀ v, (Owes c [1, 2, 3, 5, 7, 4, 6, 8, 13, 9, 11, 14, 10, 12] ∗ Sndw 0 c ∗ held c M1 M1.view.set (B c) ∗ held c M0 M0.view.set (A c) ∗ sendPay A B 1 c ∗ held c M3 M3.view.set (b2 B c y)) -∗ Kt v))
      ⊢ wp frame (wpE (defs₀ (F := F)) 𝒱₀ (c : Thread nD τ) none) Set.univ
          (k0_part3 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 v44 v60 v63) Kt := by
  rw [k0_part3_eq_skeleton]; unfold k0_part3_skel
  simp only [Prog.lift, Prog.bind_op, Prog.bind_ret, Prog.pure_eq_ret, pay3_eq]
  iintro ⟨#HE, HD0, Ht0, Hh0, HO, HB, HW, HA, HD1, Hk⟩
  iapply (send_whole A B K c _ 0 [1, 2, 3, 5, 7, 4, 6, 8, 13, 9, 11, 14, 10, 12] (dev4_eq c) inb_S256x2048_S256x768_0_0 M4 M5 _ (x0 A B c) rfl rfl rfl (by rfl) (by rfl) (by rfl)) $$ [Ht0 HO HD0 Hh0]
  · isplitr; · iexact HE
    isplitl [Ht0]; · iexact Ht0
    isplitl [HO]; · iexact HO
    isplitl [HD0]; · iexact HD0
    iexact Hh0
  iintro ⟨HO, Hw0⟩
  iapply (load_at c M1 _ (reg_sub M1 _)) $$ HB; iintro HB
  iapply (load_at c M3 _ (reg_sub M3 _)) $$ HW; iintro HW
  iapply (store_at c M3 (Memref.isWhole_whole _) _ (reg_sub M3 _)) $$ HW; iintro HW
  iapply (load_at c M0 _ (reg_sub M0 _)) $$ HA; iintro HA
  iapply (load_put c M3 _ (reg_sub M3 _)) $$ HW; iintro HW
  ihave HD1 := (Entails.of_eq (room_1 c)) $$ HD1
  icases HD1 with ⟨%y1, HD1⟩
  iapply (load_at c M4 _ subset_rfl) $$ HD1; iintro HD1
  iapply (store_at c M4 (Memref.isWhole_whole _) _ subset_rfl) $$ HD1; iintro HD1
  ihave HD1 := (Entails.of_eq (held_put_base M4 c _ _ junk _)) $$ HD1
  ihave HD1 := (Entails.of_eq (sendPay_1 A B c).symm) $$ HD1
  rw [wp_ret]; imodintro
  iapply Hk
  isplitl [HO]; · iexact HO
  isplitl [Hw0]; · iexact Hw0
  isplitl [HB]; · iexact HB
  isplitl [HA]; · iexact HA
  isplitl [HD1]; · iexact HD1
  iexact HW

/-- Part 4: copy 1 is issued, and the product for copy 2 computed; the working copy of `B` is complete. -/
theorem part4 (c : Dev nD) (v3 v5 v7 v44 v95 c1_i32_62 : BitVec 32) (y : Vec F S1024x2048 .bf16) (Kt : _ → sProp 𝕄) :
    iprop(Env A B K ∗ sendPay A B 1 c ∗ Snd 1 c ∗ hole 1 (peer (lk 1) c) ∗ Owes c [1, 2, 3, 5, 7, 4, 6, 8, 13, 9, 11, 14, 10, 12] ∗ held c M1 M1.view.set (B c) ∗ held c M3 M3.view.set (b2 B c y) ∗ held c M0 M0.view.set (A c) ∗ room 2 c
        ∗ (∀ v, (Owes c [2, 3, 5, 7, 4, 6, 8, 13, 9, 11, 14, 10, 12] ∗ Sndw 1 c ∗ held c M1 M1.view.set (B c) ∗ held c M0 M0.view.set (A c) ∗ sendPay A B 2 c ∗ held c M3 M3.view.set (B c)) -∗ Kt v))
      ⊢ wp frame (wpE (defs₀ (F := F)) 𝒱₀ (c : Thread nD τ) none) Set.univ
          (k0_part4 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 v44 v95 c1_i32_62) Kt := by
  rw [k0_part4_eq_skeleton]; unfold k0_part4_skel
  simp only [Prog.lift, Prog.bind_op, Prog.bind_ret, Prog.pure_eq_ret, pay5_eq]
  iintro ⟨#HE, HD1, Ht1, Hh1, HO, HB, HW, HA, HD2, Hk⟩
  iapply (send_whole A B K c _ 1 [2, 3, 5, 7, 4, 6, 8, 13, 9, 11, 14, 10, 12] (dev5_eq c) inb_S256x2048_S256x768_0_768 M4 M6 _ (x1 A B c) rfl rfl rfl (by rfl) (by rfl) (by rfl)) $$ [Ht1 HO HD1 Hh1]
  · isplitr; · iexact HE
    isplitl [Ht1]; · iexact Ht1
    isplitl [HO]; · iexact HO
    isplitl [HD1]; · iexact HD1
    iexact Hh1
  iintro ⟨HO, Hw1⟩
  iapply (load_at c M1 _ (reg_sub M1 _)) $$ HB; iintro HB
  iapply (load_at c M3 _ (reg_sub M3 _)) $$ HW; iintro HW
  iapply (store_at c M3 (Memref.isWhole_whole _) _ (reg_sub M3 _)) $$ HW; iintro HW
  iapply (load_at c M0 _ (reg_sub M0 _)) $$ HA; iintro HA
  iapply (load_put c M3 _ (reg_sub M3 _)) $$ HW; iintro HW
  ihave HD2 := (Entails.of_eq (room_2 c)) $$ HD2
  icases HD2 with ⟨%y2, HD2⟩
  iapply (load_at c M4 _ subset_rfl) $$ HD2; iintro HD2
  iapply (store_at c M4 (Memref.isWhole_whole _) _ subset_rfl) $$ HD2; iintro HD2
  ihave HD2 := (Entails.of_eq (held_put_base M4 c _ _ junk _)) $$ HD2
  ihave HD2 := (Entails.of_eq (sendPay_2 A B c).symm) $$ HD2
  ihave HW := (show held c M3 M3.view.set (b3 B c y) ⊢ held c M3 M3.view.set (B c) from Entails.of_eq (congrArg _ (b3_eq B c y))) $$ HW
  rw [wp_ret]; imodintro
  iapply Hk
  isplitl [HO]; · iexact HO
  isplitl [Hw1]; · iexact Hw1
  isplitl [HB]; · iexact HB
  isplitl [HA]; · iexact HA
  isplitl [HD2]; · iexact HD2
  iexact HW

end Cert.Cube

end
-- ==== Proof.PartsA.lean ====
/-
# The kernel's parts 5 to 14: the first phase sent, the second computed
-/
module

public import proofs.«01_k».proof.Proof.Regions

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

variable (A : Dev nD → Vec F S2048x1024 .bf16) (B : Dev nD → Vec F S1024x2048 .bf16) (K : Dev nD × Fin 31 → ℕ)

/-- Part 5: copy 2 is issued, and the product for copy 3 computed. -/
theorem part5 (c : Dev nD) (v3 v5 v7 : BitVec 32) (Kt : _ → sProp 𝕄) :
    iprop(Env A B K ∗ sendPay A B 2 c ∗ Snd 2 c ∗ hole 2 (peer (lk 2) c) ∗ Owes c [2, 3, 5, 7, 4, 6, 8, 13, 9, 11, 14, 10, 12] ∗ held c M0 M0.view.set (A c) ∗ held c M3 M3.view.set (B c) ∗ room 3 c
        ∗ (∀ v, (Owes c [3, 5, 7, 4, 6, 8, 13, 9, 11, 14, 10, 12] ∗ Sndw 2 c ∗ held c M0 M0.view.set (A c) ∗ held c M3 M3.view.set (B c) ∗ sendPay A B 3 c) -∗ Kt v))
      ⊢ wp frame (wpE (defs₀ (F := F)) 𝒱₀ (c : Thread nD τ) none) Set.univ
          (k0_part5 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7) Kt := by
  rw [k0_part5_eq_skeleton]; unfold k0_part5_skel
  simp only [Prog.lift, Prog.bind_op, Prog.bind_ret, Prog.pure_eq_ret]
  iintro ⟨#HE, HD2, Ht2, Hh2, HO, HA, HW, HD3, Hk⟩
  iapply (send_whole A B K c _ 2 [3, 5, 7, 4, 6, 8, 13, 9, 11, 14, 10, 12] (dev6_eq c) inb_S256x2048_S256x512_0_1536 M4 M7 _ (x2 A B c) rfl rfl rfl (by rfl) (by rfl) (by rfl)) $$ [Ht2 HO HD2 Hh2]
  · isplitr; · iexact HE
    isplitl [Ht2]; · iexact Ht2
    isplitl [HO]; · iexact HO
    isplitl [HD2]; · iexact HD2
    iexact Hh2
  iintro ⟨HO, Hw2⟩
  iapply (load_at c M0 _ (reg_sub M0 _)) $$ HA; iintro HA
  iapply (load_at c M3 _ (reg_sub M3 _)) $$ HW; iintro HW
  ihave HD3 := (Entails.of_eq (room_3 c)) $$ HD3
  icases HD3 with ⟨%y3, HD3⟩
  iapply (load_at c M8 _ subset_rfl) $$ HD3; iintro HD3
  iapply (store_at c M8 (Memref.isWhole_whole _) _ subset_rfl) $$ HD3; iintro HD3
  ihave HD3 := (Entails.of_eq (held_put_base M8 c _ _ junk _)) $$ HD3
  ihave HD3 := (Entails.of_eq (sendPay_3 A B c).symm) $$ HD3
  rw [wp_ret]; imodintro
  iapply Hk
  isplitl [HO]; · iexact HO
  isplitl [Hw2]; · iexact Hw2
  isplitl [HA]; · iexact HA
  isplitl [HW]; · iexact HW
  iexact HD3

/-- Part 6: copy 3 is issued, and the product for copy 5 computed. -/
theorem part6 (c : Dev nD) (v3 v5 v7 : BitVec 32) (Kt : _ → sProp 𝕄) :
    iprop(Env A B K ∗ sendPay A B 3 c ∗ Snd 3 c ∗ hole 3 (peer (lk 3) c) ∗ Owes c [3, 5, 7, 4, 6, 8, 13, 9, 11, 14, 10, 12] ∗ held c M0 M0.view.set (A c) ∗ held c M3 M3.view.set (B c) ∗ room 5 c
        ∗ (∀ v, (Owes c [5, 7, 4, 6, 8, 13, 9, 11, 14, 10, 12] ∗ Sndw 3 c ∗ held c M0 M0.view.set (A c) ∗ held c M3 M3.view.set (B c) ∗ sendPay A B 5 c) -∗ Kt v))
      ⊢ wp frame (wpE (defs₀ (F := F)) 𝒱₀ (c : Thread nD τ) none) Set.univ
          (k0_part6 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7) Kt := by
  rw [k0_part6_eq_skeleton]; unfold k0_part6_skel
  simp only [Prog.lift, Prog.bind_op, Prog.bind_ret, Prog.pure_eq_ret]
  iintro ⟨#HE, HD3, Ht3, Hh3, HO, HA, HW, HD5, Hk⟩
  iapply (send_piece A B K c _ 3 [5, 7, 4, 6, 8, 13, 9, 11, 14, 10, 12] (dev7_eq c) M8 M9 _ _ _ (x3 A B c) rfl rfl rfl (by rfl) (by rfl) (by rfl)) $$ [Ht3 HO HD3 Hh3]
  · isplitr; · iexact HE
    isplitl [Ht3]; · iexact Ht3
    isplitl [HO]; · iexact HO
    isplitl [HD3]; · iexact HD3
    iexact Hh3
  iintro ⟨HO, Hw3⟩
  iapply (load_at c M0 _ (reg_sub M0 _)) $$ HA; iintro HA
  iapply (load_at c M3 _ (reg_sub M3 _)) $$ HW; iintro HW
  ihave HD5 := (Entails.of_eq (room_5 c)) $$ HD5
  icases HD5 with ⟨%y5, HD5⟩
  iapply (load_at c M8 _ subset_rfl) $$ HD5; iintro HD5
  iapply (store_at c M8 (Memref.isWhole_whole _) _ subset_rfl) $$ HD5; iintro HD5
  ihave HD5 := (Entails.of_eq (held_put_base M8 c _ _ junk _)) $$ HD5
  ihave HD5 := (Entails.of_eq (sendPay_5 A B c).symm) $$ HD5
  rw [wp_ret]; imodintro
  iapply Hk
  isplitl [HO]; · iexact HO
  isplitl [Hw3]; · iexact Hw3
  isplitl [HA]; · iexact HA
  isplitl [HW]; · iexact HW
  iexact HD5

/-- Part 7: copy 5 is issued, and the product for copy 7 computed. -/
theorem part7 (c : Dev nD) (v3 v5 v7 v191 c1_i32_135 : BitVec 32) (Kt : _ → sProp 𝕄) :
    iprop(Env A B K ∗ sendPay A B 5 c ∗ Snd 5 c ∗ hole 5 (peer (lk 5) c) ∗ Owes c [5, 7, 4, 6, 8, 13, 9, 11, 14, 10, 12] ∗ held c M0 M0.view.set (A c) ∗ held c M3 M3.view.set (B c) ∗ room 7 c
        ∗ (∀ v, (Owes c [7, 4, 6, 8, 13, 9, 11, 14, 10, 12] ∗ Sndw 5 c ∗ held c M0 M0.view.set (A c) ∗ held c M3 M3.view.set (B c) ∗ sendPay A B 7 c) -∗ Kt v))
      ⊢ wp frame (wpE (defs₀ (F := F)) 𝒱₀ (c : Thread nD τ) none) Set.univ
          (k0_part7 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 v191 c1_i32_135) Kt := by
  rw [k0_part7_eq_skeleton]; unfold k0_part7_skel
  simp only [Prog.lift, Prog.bind_op, Prog.bind_ret, Prog.pure_eq_ret]
  iintro ⟨#HE, HD5, Ht5, Hh5, HO, HA, HW, HD7, Hk⟩
  iapply (send_piece A B K c _ 5 [7, 4, 6, 8, 13, 9, 11, 14, 10, 12] (dev8_eq c) M8 M9 _ _ _ (x5 A B c) rfl rfl rfl (by rfl) (by rfl) (by rfl)) $$ [Ht5 HO HD5 Hh5]
  · isplitr; · iexact HE
    isplitl [Ht5]; · iexact Ht5
    isplitl [HO]; · iexact HO
    isplitl [HD5]; · iexact HD5
    iexact Hh5
  iintro ⟨HO, Hw5⟩
  iapply (load_at c M0 _ (reg_sub M0 _)) $$ HA; iintro HA
  iapply (load_at c M3 _ (reg_sub M3 _)) $$ HW; iintro HW
  ihave HD7 := (Entails.of_eq (room_7 c)) $$ HD7
  icases HD7 with ⟨%y7, HD7⟩
  iapply (load_at c M8 _ subset_rfl) $$ HD7; iintro HD7
  iapply (store_at c M8 (Memref.isWhole_whole _) _ subset_rfl) $$ HD7; iintro HD7
  ihave HD7 := (Entails.of_eq (held_put_base M8 c _ _ junk _)) $$ HD7
  ihave HD7 := (Entails.of_eq (sendPay_7 A B c).symm) $$ HD7
  rw [wp_ret]; imodintro
  iapply Hk
  isplitl [HO]; · iexact HO
  isplitl [Hw5]; · iexact Hw5
  isplitl [HA]; · iexact HA
  isplitl [HW]; · iexact HW
  iexact HD7

/-- Part 8: copy 7 is issued, and the product for copy 4 computed. -/
theorem part8 (c : Dev nD) (v3 v5 v7 v124 v226 : BitVec 32) (Kt : _ → sProp 𝕄) :
    iprop(Env A B K ∗ sendPay A B 7 c ∗ Snd 7 c ∗ hole 7 (peer (lk 7) c) ∗ Owes c [7, 4, 6, 8, 13, 9, 11, 14, 10, 12] ∗ held c M0 M0.view.set (A c) ∗ held c M3 M3.view.set (B c) ∗ room 4 c
        ∗ (∀ v, (Owes c [4, 6, 8, 13, 9, 11, 14, 10, 12] ∗ Sndw 7 c ∗ held c M0 M0.view.set (A c) ∗ held c M3 M3.view.set (B c) ∗ held c M8 (reg M8 ![0, 0, 1536] S1x256x512.size inb_S3x256x2048_S1x256x512_0_0_1536) (put junk ![0, 0, 1536] S1x256x512.size (k0_pay10 (a2 A c) (window (B c) ![0, 1536] S1024x512.size inb_S1024x2048_S1024x512_0_1536)))) -∗ Kt v))
      ⊢ wp frame (wpE (defs₀ (F := F)) 𝒱₀ (c : Thread nD τ) none) Set.univ
          (k0_part8 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 v124 v226) Kt := by
  rw [k0_part8_eq_skeleton]; unfold k0_part8_skel
  simp only [Prog.lift, Prog.bind_op, Prog.bind_ret, Prog.pure_eq_ret]
  iintro ⟨#HE, HD7, Ht7, Hh7, HO, HA, HW, HD4, Hk⟩
  iapply (send_piece A B K c _ 7 [4, 6, 8, 13, 9, 11, 14, 10, 12] (dev9_eq c) M8 M9 _ _ _ (x7 A B c) rfl rfl rfl (by rfl) (by rfl) (by rfl)) $$ [Ht7 HO HD7 Hh7]
  · isplitr; · iexact HE
    isplitl [Ht7]; · iexact Ht7
    isplitl [HO]; · iexact HO
    isplitl [HD7]; · iexact HD7
    iexact Hh7
  iintro ⟨HO, Hw7⟩
  iapply (load_at c M0 _ (reg_sub M0 _)) $$ HA; iintro HA
  iapply (load_at c M3 _ (reg_sub M3 _)) $$ HW; iintro HW
  ihave HD4 := (Entails.of_eq (room_4 c)) $$ HD4
  icases HD4 with ⟨%y4, HD4⟩
  iapply (load_at c M8 _ subset_rfl) $$ HD4; iintro HD4
  iapply (store_at c M8 (Memref.isWhole_whole _) _ subset_rfl) $$ HD4; iintro HD4
  ihave HD4 := (Entails.of_eq (held_put_base M8 c _ _ junk _)) $$ HD4
  rw [wp_ret]; imodintro
  iapply Hk
  isplitl [HO]; · iexact HO
  isplitl [Hw7]; · iexact Hw7
  isplitl [HA]; · iexact HA
  isplitl [HW]; · iexact HW
  iexact HD4

/-- Part 9: copy 2 has arrived and is added, and copy 4 issued. -/
theorem part9 (c : Dev nD) (v3 v5 v7 : BitVec 32) (Kt : _ → sProp 𝕄) :
    iprop(Env A B K ∗ Owes c [4, 6, 8, 13, 9, 11, 14, 10, 12] ∗ Rcv 2 c ∗ held c M8 (reg M8 ![0, 0, 1536] S1x256x512.size inb_S3x256x2048_S1x256x512_0_0_1536) (put junk ![0, 0, 1536] S1x256x512.size (k0_pay10 (a2 A c) (window (B c) ![0, 1536] S1024x512.size inb_S1024x2048_S1024x512_0_1536))) ∗ Snd 4 c ∗ hole 4 (peer (lk 4) c)
        ∗ (∀ v, (Got A B 2 c ∗ Owes c [6, 8, 13, 9, 11, 14, 10, 12] ∗ Sndw 4 c) -∗ Kt v))
      ⊢ wp frame (wpE (defs₀ (F := F)) 𝒱₀ (c : Thread nD τ) none) Set.univ
          (k0_part9 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7) Kt := by
  rw [k0_part9_eq_skeleton]; unfold k0_part9_skel
  simp only [Prog.lift, Prog.bind_op, Prog.bind_ret, Prog.pure_eq_ret]
  iintro ⟨#HE, HO, Hr2, HD4, Ht4, Hh4, Hk⟩
  iapply (recv_step A B K c 2 [4, 6, 8, 13, 9, 11, 14, 10, 12] (by decide) (fun _ => by rfl)) $$ [Hr2 HO]
  · isplitr; · iexact HE
    isplitl [Hr2]; · iexact Hr2
    iexact HO
  iintro ⟨HO, HG2, Hd2⟩
  ihave HG2 := (Entails.of_eq (recvPay_2 A B c)) $$ HG2
  iapply (load_put c M8 _ subset_rfl) $$ HD4; iintro HD4
  iapply (load_full c M7 _ (reg_sub M7 _)) $$ HG2; iintro HG2
  iapply (load_at c M8 _ subset_rfl) $$ HD4; iintro HD4
  iapply (store_at c M8 (Memref.isWhole_whole _) _ subset_rfl) $$ HD4; iintro HD4
  ihave HD4 := (Entails.of_eq (held_put_base M8 c _ _ junk _)) $$ HD4
  ihave HD4 := (Entails.of_eq (sendPay_4 A B c).symm) $$ HD4
  iapply (send_piece A B K c _ 4 [6, 8, 13, 9, 11, 14, 10, 12] (dev10_eq c) M8 M9 _ _ _ (x4 A B c) rfl rfl rfl (by rfl) (by rfl) (by rfl)) $$ [Ht4 HO HD4 Hh4]
  · isplitr; · iexact HE
    isplitl [Ht4]; · iexact Ht4
    isplitl [HO]; · iexact HO
    isplitl [HD4]; · iexact HD4
    iexact Hh4
  iintro ⟨HO, Hw4⟩
  ihave HG2 := (Entails.of_eq (recvPay_2 A B c).symm) $$ HG2
  rw [wp_ret]; imodintro
  unfold Got
  iapply Hk
  isplitl [HG2 Hd2]
  · isplitl [HG2]; · iexact HG2
    iexact Hd2
  isplitl [HO]; · iexact HO
  iexact Hw4

/-- Part 10: the product for copy 6, copy 0 having arrived and being added. -/
theorem part10 (c : Dev nD) (v3 v5 v7 v66 v284 v285 : BitVec 32) (Kt : _ → sProp 𝕄) :
    iprop(Env A B K ∗ held c M0 M0.view.set (A c) ∗ held c M3 M3.view.set (B c) ∗ room 6 c ∗ Owes c [6, 8, 13, 9, 11, 14, 10, 12] ∗ Rcv 0 c
        ∗ (∀ v, (held c M0 M0.view.set (A c) ∗ held c M3 M3.view.set (B c) ∗ Owes c [6, 8, 13, 9, 11, 14, 10, 12] ∗ Got A B 0 c ∗ sendPay A B 6 c) -∗ Kt v))
      ⊢ wp frame (wpE (defs₀ (F := F)) 𝒱₀ (c : Thread nD τ) none) Set.univ
          (k0_part10 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 v66 v284 v285) Kt := by
  rw [k0_part10_eq_skeleton]; unfold k0_part10_skel
  simp only [Prog.lift, Prog.bind_op, Prog.bind_ret, Prog.pure_eq_ret]
  iintro ⟨#HE, HA, HW, HD6, HO, Hr0, Hk⟩
  iapply (load_at c M0 _ (reg_sub M0 _)) $$ HA; iintro HA
  iapply (load_at c M3 _ (reg_sub M3 _)) $$ HW; iintro HW
  ihave HD6 := (Entails.of_eq (room_6 c)) $$ HD6
  icases HD6 with ⟨%y6, HD6⟩
  iapply (load_at c M8 _ subset_rfl) $$ HD6; iintro HD6
  iapply (store_at c M8 (Memref.isWhole_whole _) _ subset_rfl) $$ HD6; iintro HD6
  iapply (recv_step A B K c 0 [6, 8, 13, 9, 11, 14, 10, 12] (by decide) (fun _ => by rfl)) $$ [Hr0 HO]
  · isplitr; · iexact HE
    isplitl [Hr0]; · iexact Hr0
    iexact HO
  iintro ⟨HO, HG0, Hd0⟩
  ihave HG0 := (Entails.of_eq (recvPay_0 A B c)) $$ HG0
  iapply (load_put c M8 _ subset_rfl) $$ HD6; iintro HD6
  iapply (load_full c M5 _ (reg_sub M5 _)) $$ HG0; iintro HG0
  iapply (load_at c M8 _ subset_rfl) $$ HD6; iintro HD6
  iapply (store_at c M8 (Memref.isWhole_whole _) _ subset_rfl) $$ HD6; iintro HD6
  ihave HD6 := (Entails.of_eq (held_put_base M8 c _ _ junk _)) $$ HD6
  ihave HD6 := (Entails.of_eq (sendPay_6 A B c).symm) $$ HD6
  ihave HG0 := (Entails.of_eq (recvPay_0 A B c).symm) $$ HG0
  rw [wp_ret]; imodintro
  unfold Got
  iapply Hk
  isplitl [HA]; · iexact HA
  isplitl [HW]; · iexact HW
  isplitl [HO]; · iexact HO
  isplitl [HG0 Hd0]
  · isplitl [HG0]; · iexact HG0
    iexact Hd0
  iexact HD6

/-- Part 11: copy 6 is issued, and the product for copy 8 computed. -/
theorem part11 (c : Dev nD) (v3 v5 v7 v314 v315 : BitVec 32) (Kt : _ → sProp 𝕄) :
    iprop(Env A B K ∗ sendPay A B 6 c ∗ Snd 6 c ∗ hole 6 (peer (lk 6) c) ∗ Owes c [6, 8, 13, 9, 11, 14, 10, 12] ∗ held c M0 M0.view.set (A c) ∗ held c M3 M3.view.set (B c) ∗ room 8 c
        ∗ ((Owes c [8, 13, 9, 11, 14, 10, 12] ∗ Sndw 6 c ∗ held c M0 M0.view.set (A c) ∗ held c M3 M3.view.set (B c) ∗ room 8 c) -∗ Kt (k0_pay14 (a4 A c) (window (B c) ![0, 768] S1024x1280.size inb_S1024x2048_S1024x1280_0_768))))
      ⊢ wp frame (wpE (defs₀ (F := F)) 𝒱₀ (c : Thread nD τ) none) Set.univ
          (k0_part11 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 v314 v315) Kt := by
  rw [k0_part11_eq_skeleton]; unfold k0_part11_skel
  simp only [Prog.lift, Prog.bind_op, Prog.bind_ret, Prog.pure_eq_ret]
  iintro ⟨#HE, HD6, Ht6, Hh6, HO, HA, HW, HD8, Hk⟩
  iapply (send_piece A B K c _ 6 [8, 13, 9, 11, 14, 10, 12] (dev11_eq c) M8 M9 _ _ _ (x6 A B c) rfl rfl rfl (by rfl) (by rfl) (by rfl)) $$ [Ht6 HO HD6 Hh6]
  · isplitr; · iexact HE
    isplitl [Ht6]; · iexact Ht6
    isplitl [HO]; · iexact HO
    isplitl [HD6]; · iexact HD6
    iexact Hh6
  iintro ⟨HO, Hw6⟩
  iapply (load_at c M0 _ (reg_sub M0 _)) $$ HA; iintro HA
  iapply (load_at c M3 _ (reg_sub M3 _)) $$ HW; iintro HW
  ihave HD8 := (Entails.of_eq (room_8 c)) $$ HD8
  icases HD8 with ⟨%y8, HD8⟩
  iapply (load_at c M8 _ subset_rfl) $$ HD8; iintro HD8
  ihave HD8 : room (F := F) 8 c $$ [HD8]
  · rw [room_8]; iexists _; iexact HD8
  rw [wp_ret]; imodintro
  iapply Hk
  isplitl [HO]; · iexact HO
  isplitl [Hw6]; · iexact Hw6
  isplitl [HA]; · iexact HA
  isplitl [HW]; · iexact HW
  iexact HD8

/-- Part 12: the product for copy 8 is stored, and copy 1, having arrived, added to it. -/
theorem part12 (c : Dev nD) (v3 v5 v7 v95 : BitVec 32) (Kt : _ → sProp 𝕄) :
    iprop(Env A B K ∗ room 8 c ∗ Owes c [8, 13, 9, 11, 14, 10, 12] ∗ Rcv 1 c
        ∗ (∀ v, (Owes c [8, 13, 9, 11, 14, 10, 12] ∗ Got A B 1 c ∗ sendPay A B 8 c) -∗ Kt v))
      ⊢ wp frame (wpE (defs₀ (F := F)) 𝒱₀ (c : Thread nD τ) none) Set.univ
          (k0_part12 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7 v95 (k0_pay14 (a4 A c) (window (B c) ![0, 768] S1024x1280.size inb_S1024x2048_S1024x1280_0_768))) Kt := by
  rw [k0_part12_eq_skeleton]; unfold k0_part12_skel
  simp only [Prog.lift, Prog.bind_op, Prog.bind_ret, Prog.pure_eq_ret]
  iintro ⟨#HE, HD8, HO, Hr1, Hk⟩
  ihave HD8 := (Entails.of_eq (room_8 c)) $$ HD8
  icases HD8 with ⟨%y8, HD8⟩
  iapply (store_at c M8 (Memref.isWhole_whole _) _ subset_rfl) $$ HD8; iintro HD8
  ihave HD8 := (Entails.of_eq (held_put_base M8 c _ _ junk _)) $$ HD8
  iapply (recv_step A B K c 1 [8, 13, 9, 11, 14, 10, 12] (by decide) (fun _ => by rfl)) $$ [Hr1 HO]
  · isplitr; · iexact HE
    isplitl [Hr1]; · iexact Hr1
    iexact HO
  iintro ⟨HO, HG1, Hd1⟩
  ihave HG1 := (Entails.of_eq (recvPay_1 A B c)) $$ HG1
  iapply (load_at c M8 _ (reg_subset M8 _ _ (by decide))) $$ HD8; iintro HD8
  iapply (load_full c M6 _ (reg_sub M6 _)) $$ HG1; iintro HG1
  iapply (load_at c M8 _ (reg_subset M8 _ _ (by decide))) $$ HD8; iintro HD8
  iapply (store_at c M8 (Memref.isWhole_whole _) _ (reg_subset M8 _ _ (by decide))) $$ HD8; iintro HD8
  ihave HD8 := (Entails.of_eq (sendPay_8 A B c).symm) $$ HD8
  ihave HG1 := (Entails.of_eq (recvPay_1 A B c).symm) $$ HG1
  rw [wp_ret]; imodintro
  unfold Got
  iapply Hk
  isplitl [HO]; · iexact HO
  isplitl [HG1 Hd1]
  · isplitl [HG1]; · iexact HG1
    iexact Hd1
  iexact HD8

/-- Part 13: copy 8 is issued, and row 2 and the product for row 0 computed. -/
theorem part13 (c : Dev nD) (v3 v5 v7 : BitVec 32) (Kt : _ → sProp 𝕄) :
    iprop(Env A B K ∗ sendPay A B 8 c ∗ Snd 8 c ∗ hole 8 (peer (lk 8) c) ∗ Owes c [8, 13, 9, 11, 14, 10, 12] ∗ held c M0 M0.view.set (A c) ∗ held c M3 M3.view.set (B c) ∗ iprop(∃ y, held (F := F) c M10 (reg M10 ![2, 0, 0] S1x256x2048.size inb_S3x256x2048_S1x256x2048_2_0_0) y)
        ∗ ((Owes c [13, 9, 11, 14, 10, 12] ∗ Sndw 8 c ∗ held c M0 M0.view.set (A c) ∗ held c M3 M3.view.set (B c) ∗ held c M10 (reg M10 ![2, 0, 0] S1x256x2048.size inb_S3x256x2048_S1x256x2048_2_0_0) (q2 A B c)) -∗ Kt (k0_pay18 (a6 A c) (B c))))
      ⊢ wp frame (wpE (defs₀ (F := F)) 𝒱₀ (c : Thread nD τ) none) Set.univ
          (k0_part13 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7) Kt := by
  rw [k0_part13_eq_skeleton]; unfold k0_part13_skel
  simp only [Prog.lift, Prog.bind_op, Prog.bind_ret, Prog.pure_eq_ret]
  iintro ⟨#HE, HD8, Ht8, Hh8, HO, HA, HW, HQ2, Hk⟩
  iapply (send_piece A B K c _ 8 [13, 9, 11, 14, 10, 12] (dev12_eq c) M8 M9 _ _ _ (x8 A B c) rfl rfl rfl (by rfl) (by rfl) (by rfl)) $$ [Ht8 HO HD8 Hh8]
  · isplitr; · iexact HE
    isplitl [Ht8]; · iexact Ht8
    isplitl [HO]; · iexact HO
    isplitl [HD8]; · iexact HD8
    iexact Hh8
  iintro ⟨HO, Hw8⟩
  iapply (load_at c M0 _ (reg_sub M0 _)) $$ HA; iintro HA
  iapply (load_full c M3 _ (reg_sub M3 _)) $$ HW; iintro HW
  icases HQ2 with ⟨%z2, HQ2⟩
  iapply (load_at c M10 _ subset_rfl) $$ HQ2; iintro HQ2
  iapply (store_at c M10 (Memref.isWhole_whole _) _ subset_rfl) $$ HQ2; iintro HQ2
  ihave HQ2 := (Entails.of_eq (held_put_base M10 c _ _ junk _)) $$ HQ2
  iapply (load_at c M0 _ (reg_sub M0 _)) $$ HA; iintro HA
  iapply (load_full c M3 _ (reg_sub M3 _)) $$ HW; iintro HW
  rw [wp_ret]; imodintro
  iapply Hk
  isplitl [HO]; · iexact HO
  isplitl [Hw8]; · iexact Hw8
  isplitl [HA]; · iexact HA
  isplitl [HW]; · iexact HW
  iexact HQ2

/-- Part 14: rows 0 and 1 are stored. -/
theorem part14 (c : Dev nD) (v3 v5 v7 : BitVec 32) (Kt : _ → sProp 𝕄) :
    iprop(Env A B K ∗ iprop(∃ y, held (F := F) c M10 (reg M10 ![0, 0, 0] S1x256x2048.size inb_S3x256x2048_S1x256x2048_0_0_0) y) ∗ held c M0 M0.view.set (A c) ∗ held c M3 M3.view.set (B c) ∗ iprop(∃ y, held (F := F) c M10 (reg M10 ![1, 0, 0] S1x256x2048.size inb_S3x256x2048_S1x256x2048_1_0_0) y)
        ∗ (∀ v, (held c M10 (reg M10 ![0, 0, 0] S1x256x2048.size inb_S3x256x2048_S1x256x2048_0_0_0) (q0 A B c) ∗ held c M0 M0.view.set (A c) ∗ held c M3 M3.view.set (B c) ∗ held c M10 (reg M10 ![1, 0, 0] S1x256x2048.size inb_S3x256x2048_S1x256x2048_1_0_0) (q1 A B c)) -∗ Kt v))
      ⊢ wp frame (wpE (defs₀ (F := F)) 𝒱₀ (c : Thread nD τ) none) Set.univ
          (k0_part14 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 (k0_pay18 (a6 A c) (B c))) Kt := by
  rw [k0_part14_eq_skeleton]; unfold k0_part14_skel
  simp only [Prog.lift, Prog.bind_op, Prog.bind_ret, Prog.pure_eq_ret]
  iintro ⟨#HE, HQ0, HA, HW, HQ1, Hk⟩
  icases HQ0 with ⟨%z0, HQ0⟩
  iapply (load_at c M10 _ subset_rfl) $$ HQ0; iintro HQ0
  iapply (store_at c M10 (Memref.isWhole_whole _) _ subset_rfl) $$ HQ0; iintro HQ0
  ihave HQ0 := (Entails.of_eq (held_put_base M10 c _ _ junk _)) $$ HQ0
  iapply (load_at c M0 _ (reg_sub M0 _)) $$ HA; iintro HA
  iapply (load_full c M3 _ (reg_sub M3 _)) $$ HW; iintro HW
  icases HQ1 with ⟨%z1, HQ1⟩
  iapply (load_at c M10 _ subset_rfl) $$ HQ1; iintro HQ1
  iapply (store_at c M10 (Memref.isWhole_whole _) _ subset_rfl) $$ HQ1; iintro HQ1
  ihave HQ1 := (Entails.of_eq (held_put_base M10 c _ _ junk _)) $$ HQ1
  rw [wp_ret]; imodintro
  iapply Hk
  isplitl [HQ0]; · iexact HQ0
  isplitl [HA]; · iexact HA
  isplitl [HW]; · iexact HW
  iexact HQ1

end Cert.Cube

end
-- ==== Proof.PartsB.lean ====
/-
# The kernel's parts 15 to 22: the second phase received and added, the third sent
-/
module

public import proofs.«01_k».proof.Proof.Regions

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

variable (A : Dev nD → Vec F S2048x1024 .bf16) (B : Dev nD → Vec F S1024x2048 .bf16) (K : Dev nD × Fin 31 → ℕ)

/-- Part 15: copy 5 has arrived and is added to the piece of copy 13, which is issued. -/
theorem part15 (c : Dev nD) (v3 v5 v7 : BitVec 32) (Kt : _ → sProp 𝕄) :
    iprop(Env A B K ∗ Owes c [13, 9, 11, 14, 10, 12] ∗ Rcv 5 c ∗ held c M10 (reg M10 ![2, 0, 768] S1x256x1280.size inb_S3x256x2048_S1x256x1280_2_0_768) (q2 A B c) ∗ Snd 13 c ∗ hole 13 (peer (lk 13) c)
        ∗ (∀ v, (Got A B 5 c ∗ Owes c [9, 11, 14, 10, 12] ∗ Sndw 13 c) -∗ Kt v))
      ⊢ wp frame (wpE (defs₀ (F := F)) 𝒱₀ (c : Thread nD τ) none) Set.univ
          (k0_part15 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7) Kt := by
  rw [k0_part15_eq_skeleton]; unfold k0_part15_skel
  simp only [Prog.lift, Prog.bind_op, Prog.bind_ret, Prog.pure_eq_ret]
  iintro ⟨#HE, HO, Hr5, HD13, Ht13, Hh13, Hk⟩
  iapply (recv_step A B K c 5 [13, 9, 11, 14, 10, 12] (by decide) (fun _ => by rfl)) $$ [Hr5 HO]
  · isplitr; · iexact HE
    isplitl [Hr5]; · iexact Hr5
    iexact HO
  iintro ⟨HO, HG5, Hd5⟩
  ihave HG5 := (Entails.of_eq (recvPay_5 A B c)) $$ HG5
  iapply (load_at c M10 _ subset_rfl) $$ HD13; iintro HD13
  iapply (load_at c M9 _ subset_rfl) $$ HG5; iintro HG5
  iapply (load_at c M10 _ subset_rfl) $$ HD13; iintro HD13
  iapply (store_at c M10 (Memref.isWhole_whole _) _ subset_rfl) $$ HD13; iintro HD13
  ihave HD13 := (Entails.of_eq (held_put_base M10 c _ _ junk _)) $$ HD13
  ihave HD13 := (Entails.of_eq (sendPay_13 A B c).symm) $$ HD13
  iapply (send_piece A B K c _ 13 [9, 11, 14, 10, 12] (dev13_eq c) M10 M11 _ _ _ (x13 A B c) rfl rfl rfl (by rfl) (by rfl) (by rfl)) $$ [Ht13 HO HD13 Hh13]
  · isplitr; · iexact HE
    isplitl [Ht13]; · iexact Ht13
    isplitl [HO]; · iexact HO
    isplitl [HD13]; · iexact HD13
    iexact Hh13
  iintro ⟨HO, Hw13⟩
  ihave HG5 := (Entails.of_eq (recvPay_5 A B c).symm) $$ HG5
  rw [wp_ret]; imodintro
  unfold Got
  iapply Hk
  isplitl [HG5 Hd5]
  · isplitl [HG5]; · iexact HG5
    iexact Hd5
  isplitl [HO]; · iexact HO
  iexact Hw13

/-- Part 16: copy 7 has arrived and is added to the piece of copy 9. -/
theorem part16 (c : Dev nD) (v3 v5 v7 v469 : BitVec 32) (Kt : _ → sProp 𝕄) :
    iprop(Env A B K ∗ Owes c [9, 11, 14, 10, 12] ∗ Rcv 7 c ∗ held c M10 (reg M10 ![0, 0, 0] S1x256x768.size inb_S3x256x2048_S1x256x768_0_0_0) (q0 A B c)
        ∗ (∀ v, (Owes c [9, 11, 14, 10, 12] ∗ Got A B 7 c ∗ sendPay A B 9 c) -∗ Kt v))
      ⊢ wp frame (wpE (defs₀ (F := F)) 𝒱₀ (c : Thread nD τ) none) Set.univ
          (k0_part16 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7 v469) Kt := by
  rw [k0_part16_eq_skeleton]; unfold k0_part16_skel
  simp only [Prog.lift, Prog.bind_op, Prog.bind_ret, Prog.pure_eq_ret]
  iintro ⟨#HE, HO, Hr7, HD9, Hk⟩
  iapply (recv_step A B K c 7 [9, 11, 14, 10, 12] (by decide) (fun _ => by rfl)) $$ [Hr7 HO]
  · isplitr; · iexact HE
    isplitl [Hr7]; · iexact Hr7
    iexact HO
  iintro ⟨HO, HG7, Hd7⟩
  ihave HG7 := (Entails.of_eq (recvPay_7 A B c)) $$ HG7
  iapply (load_at c M10 _ subset_rfl) $$ HD9; iintro HD9
  iapply (load_at c M9 _ subset_rfl) $$ HG7; iintro HG7
  iapply (load_at c M10 _ subset_rfl) $$ HD9; iintro HD9
  iapply (store_at c M10 (Memref.isWhole_whole _) _ subset_rfl) $$ HD9; iintro HD9
  ihave HD9 := (Entails.of_eq (held_put_base M10 c _ _ junk _)) $$ HD9
  ihave HD9 := (Entails.of_eq (sendPay_9 A B c).symm) $$ HD9
  ihave HG7 := (Entails.of_eq (recvPay_7 A B c).symm) $$ HG7
  rw [wp_ret]; imodintro
  unfold Got
  iapply Hk
  isplitl [HO]; · iexact HO
  isplitl [HG7 Hd7]
  · isplitl [HG7]; · iexact HG7
    iexact Hd7
  iexact HD9

/-- Part 17: copy 9 is issued, and copy 3 has arrived. -/
theorem part17 (c : Dev nD) (v3 v5 v7 v498 : BitVec 32) (Kt : _ → sProp 𝕄) :
    iprop(Env A B K ∗ sendPay A B 9 c ∗ Snd 9 c ∗ hole 9 (peer (lk 9) c) ∗ Owes c [9, 11, 14, 10, 12] ∗ Rcv 3 c ∗ held c M10 (reg M10 ![1, 0, 0] S1x256x1536.size inb_S3x256x2048_S1x256x1536_1_0_0) (q1 A B c)
        ∗ ((Sndw 9 c ∗ Owes c [11, 14, 10, 12] ∗ Got A B 3 c ∗ held c M10 (reg M10 ![1, 0, 0] S1x256x1536.size inb_S3x256x2048_S1x256x1536_1_0_0) (q1 A B c)) -∗ Kt (k0_pay23 (window (q1 A B c) ![1, 0, 0] S1x256x1536.size inb_S3x256x2048_S1x256x1536_1_0_0))))
      ⊢ wp frame (wpE (defs₀ (F := F)) 𝒱₀ (c : Thread nD τ) none) Set.univ
          (k0_part17 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 v498) Kt := by
  rw [k0_part17_eq_skeleton]; unfold k0_part17_skel
  simp only [Prog.lift, Prog.bind_op, Prog.bind_ret, Prog.pure_eq_ret]
  iintro ⟨#HE, HD9, Ht9, Hh9, HO, Hr3, HD11, Hk⟩
  iapply (send_piece A B K c _ 9 [11, 14, 10, 12] (dev14_eq c) M10 M11 _ _ _ (x9 A B c) rfl rfl rfl (by rfl) (by rfl) (by rfl)) $$ [Ht9 HO HD9 Hh9]
  · isplitr; · iexact HE
    isplitl [Ht9]; · iexact Ht9
    isplitl [HO]; · iexact HO
    isplitl [HD9]; · iexact HD9
    iexact Hh9
  iintro ⟨HO, Hw9⟩
  iapply (recv_step A B K c 3 [11, 14, 10, 12] (by decide) (fun _ => by rfl)) $$ [Hr3 HO]
  · isplitr; · iexact HE
    isplitl [Hr3]; · iexact Hr3
    iexact HO
  iintro ⟨HO, HG3, Hd3⟩
  iapply (load_at c M10 _ subset_rfl) $$ HD11; iintro HD11
  rw [wp_ret]; imodintro
  unfold Got
  iapply Hk
  isplitl [Hw9]; · iexact Hw9
  isplitl [HO]; · iexact HO
  isplitl [HG3 Hd3]
  · isplitl [HG3]; · iexact HG3
    iexact Hd3
  iexact HD11

/-- Part 18: what copy 3 brought is added to the piece of copy 11, which is issued. -/
theorem part18 (c : Dev nD) (v3 v5 v7 : BitVec 32) (Kt : _ → sProp 𝕄) :
    iprop(Env A B K ∗ Got A B 3 c ∗ held c M10 (reg M10 ![1, 0, 0] S1x256x1536.size inb_S3x256x2048_S1x256x1536_1_0_0) (q1 A B c) ∗ Snd 11 c ∗ hole 11 (peer (lk 11) c) ∗ Owes c [11, 14, 10, 12]
        ∗ (∀ v, (Got A B 3 c ∗ Owes c [14, 10, 12] ∗ Sndw 11 c) -∗ Kt v))
      ⊢ wp frame (wpE (defs₀ (F := F)) 𝒱₀ (c : Thread nD τ) none) Set.univ
          (k0_part18 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 (k0_pay23 (window (q1 A B c) ![1, 0, 0] S1x256x1536.size inb_S3x256x2048_S1x256x1536_1_0_0))) Kt := by
  rw [k0_part18_eq_skeleton]; unfold k0_part18_skel
  simp only [Prog.lift, Prog.bind_op, Prog.bind_ret, Prog.pure_eq_ret]
  unfold Got
  iintro ⟨#HE, HG3, HD11, Ht11, Hh11, HO, Hk⟩
  icases HG3 with ⟨HG3, Hd3⟩
  ihave HG3 := (Entails.of_eq (recvPay_3 A B c)) $$ HG3
  iapply (load_at c M9 _ subset_rfl) $$ HG3; iintro HG3
  iapply (load_at c M10 _ subset_rfl) $$ HD11; iintro HD11
  iapply (store_at c M10 (Memref.isWhole_whole _) _ subset_rfl) $$ HD11; iintro HD11
  ihave HD11 := (Entails.of_eq (held_put_base M10 c _ _ junk _)) $$ HD11
  ihave HD11 := (Entails.of_eq (sendPay_11 A B c).symm) $$ HD11
  iapply (send_piece A B K c _ 11 [14, 10, 12] (dev15_eq c) M10 M11 _ _ _ (x11 A B c) rfl rfl rfl (by rfl) (by rfl) (by rfl)) $$ [Ht11 HO HD11 Hh11]
  · isplitr; · iexact HE
    isplitl [Ht11]; · iexact Ht11
    isplitl [HO]; · iexact HO
    isplitl [HD11]; · iexact HD11
    iexact Hh11
  iintro ⟨HO, Hw11⟩
  ihave HG3 := (Entails.of_eq (recvPay_3 A B c).symm) $$ HG3
  rw [wp_ret]; imodintro
  iapply Hk
  isplitl [HG3 Hd3]
  · isplitl [HG3]; · iexact HG3
    iexact Hd3
  isplitl [HO]; · iexact HO
  iexact Hw11

/-- Part 19: copy 6 has arrived and is added to the piece of copy 14. -/
theorem part19 (c : Dev nD) (v3 v5 v7 v555 : BitVec 32) (Kt : _ → sProp 𝕄) :
    iprop(Env A B K ∗ Owes c [14, 10, 12] ∗ Rcv 6 c ∗ held c M10 (reg M10 ![2, 0, 0] S1x256x768.size inb_S3x256x2048_S1x256x768_2_0_0) (q2 A B c)
        ∗ (∀ v, (Owes c [14, 10, 12] ∗ Got A B 6 c ∗ sendPay A B 14 c) -∗ Kt v))
      ⊢ wp frame (wpE (defs₀ (F := F)) 𝒱₀ (c : Thread nD τ) none) Set.univ
          (k0_part19 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7 v555) Kt := by
  rw [k0_part19_eq_skeleton]; unfold k0_part19_skel
  simp only [Prog.lift, Prog.bind_op, Prog.bind_ret, Prog.pure_eq_ret]
  iintro ⟨#HE, HO, Hr6, HD14, Hk⟩
  iapply (recv_step A B K c 6 [14, 10, 12] (by decide) (fun _ => by rfl)) $$ [Hr6 HO]
  · isplitr; · iexact HE
    isplitl [Hr6]; · iexact Hr6
    iexact HO
  iintro ⟨HO, HG6, Hd6⟩
  ihave HG6 := (Entails.of_eq (recvPay_6 A B c)) $$ HG6
  iapply (load_at c M10 _ subset_rfl) $$ HD14; iintro HD14
  iapply (load_at c M9 _ subset_rfl) $$ HG6; iintro HG6
  iapply (load_at c M10 _ subset_rfl) $$ HD14; iintro HD14
  iapply (store_at c M10 (Memref.isWhole_whole _) _ subset_rfl) $$ HD14; iintro HD14
  ihave HD14 := (Entails.of_eq (held_put_base M10 c _ _ junk _)) $$ HD14
  ihave HD14 := (Entails.of_eq (sendPay_14 A B c).symm) $$ HD14
  ihave HG6 := (Entails.of_eq (recvPay_6 A B c).symm) $$ HG6
  rw [wp_ret]; imodintro
  unfold Got
  iapply Hk
  isplitl [HO]; · iexact HO
  isplitl [HG6 Hd6]
  · isplitl [HG6]; · iexact HG6
    iexact Hd6
  iexact HD14

/-- Part 20: copy 14 is issued; copy 8 has arrived and is added to the piece of copy 10. -/
theorem part20 (c : Dev nD) (v3 v5 v7 : BitVec 32) (Kt : _ → sProp 𝕄) :
    iprop(Env A B K ∗ sendPay A B 14 c ∗ Snd 14 c ∗ hole 14 (peer (lk 14) c) ∗ Owes c [14, 10, 12] ∗ Rcv 8 c ∗ held c M10 (reg M10 ![0, 0, 768] S1x256x1280.size inb_S3x256x2048_S1x256x1280_0_0_768) (q0 A B c)
        ∗ (∀ v, (Sndw 14 c ∗ Owes c [10, 12] ∗ Got A B 8 c ∗ sendPay A B 10 c) -∗ Kt v))
      ⊢ wp frame (wpE (defs₀ (F := F)) 𝒱₀ (c : Thread nD τ) none) Set.univ
          (k0_part20 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7) Kt := by
  rw [k0_part20_eq_skeleton]; unfold k0_part20_skel
  simp only [Prog.lift, Prog.bind_op, Prog.bind_ret, Prog.pure_eq_ret]
  iintro ⟨#HE, HD14, Ht14, Hh14, HO, Hr8, HD10, Hk⟩
  iapply (send_piece A B K c _ 14 [10, 12] (dev16_eq c) M10 M11 _ _ _ (x14 A B c) rfl rfl rfl (by rfl) (by rfl) (by rfl)) $$ [Ht14 HO HD14 Hh14]
  · isplitr; · iexact HE
    isplitl [Ht14]; · iexact Ht14
    isplitl [HO]; · iexact HO
    isplitl [HD14]; · iexact HD14
    iexact Hh14
  iintro ⟨HO, Hw14⟩
  iapply (recv_step A B K c 8 [10, 12] (by decide) (fun _ => by rfl)) $$ [Hr8 HO]
  · isplitr; · iexact HE
    isplitl [Hr8]; · iexact Hr8
    iexact HO
  iintro ⟨HO, HG8, Hd8⟩
  ihave HG8 := (Entails.of_eq (recvPay_8 A B c)) $$ HG8
  iapply (load_at c M10 _ subset_rfl) $$ HD10; iintro HD10
  iapply (load_at c M9 _ subset_rfl) $$ HG8; iintro HG8
  iapply (load_at c M10 _ subset_rfl) $$ HD10; iintro HD10
  iapply (store_at c M10 (Memref.isWhole_whole _) _ subset_rfl) $$ HD10; iintro HD10
  ihave HD10 := (Entails.of_eq (held_put_base M10 c _ _ junk _)) $$ HD10
  ihave HD10 := (Entails.of_eq (sendPay_10 A B c).symm) $$ HD10
  ihave HG8 := (Entails.of_eq (recvPay_8 A B c).symm) $$ HG8
  rw [wp_ret]; imodintro
  unfold Got
  iapply Hk
  isplitl [Hw14]; · iexact Hw14
  isplitl [HO]; · iexact HO
  isplitl [HG8 Hd8]
  · isplitl [HG8]; · iexact HG8
    iexact Hd8
  iexact HD10

/-- Part 21: copy 10 is issued. -/
theorem part21 (c : Dev nD) (v3 v5 v7 : BitVec 32) (Kt : _ → sProp 𝕄) :
    iprop(Env A B K ∗ sendPay A B 10 c ∗ Snd 10 c ∗ hole 10 (peer (lk 10) c) ∗ Owes c [10, 12]
        ∗ (∀ v, (Owes c [12] ∗ Sndw 10 c) -∗ Kt v))
      ⊢ wp frame (wpE (defs₀ (F := F)) 𝒱₀ (c : Thread nD τ) none) Set.univ
          (k0_part21 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7) Kt := by
  rw [k0_part21_eq_skeleton]; unfold k0_part21_skel
  simp only [Prog.lift, Prog.bind_op, Prog.bind_ret, Prog.pure_eq_ret]
  iintro ⟨#HE, HD10, Ht10, Hh10, HO, Hk⟩
  iapply (send_piece A B K c _ 10 [12] (dev17_eq c) M10 M11 _ _ _ (x10 A B c) rfl rfl rfl (by rfl) (by rfl) (by rfl)) $$ [Ht10 HO HD10 Hh10]
  · isplitr; · iexact HE
    isplitl [Ht10]; · iexact Ht10
    isplitl [HO]; · iexact HO
    isplitl [HD10]; · iexact HD10
    iexact Hh10
  iintro ⟨HO, Hw10⟩
  rw [wp_ret]; imodintro
  iapply Hk
  isplitl [HO]; · iexact HO
  iexact Hw10

/-- Part 22: copy 4 has arrived and is added to the piece of copy 12, which is issued. -/
theorem part22 (c : Dev nD) (v2 v3 v5 v7 : BitVec 32) (Kt : _ → sProp 𝕄) :
    iprop(Env A B K ∗ Owes c [12] ∗ Rcv 4 c ∗ held c M10 (reg M10 ![1, 0, 1536] S1x256x512.size inb_S3x256x2048_S1x256x512_1_0_1536) (q1 A B c) ∗ Snd 12 c ∗ hole 12 (peer (lk 12) c)
        ∗ (∀ v, (Got A B 4 c ∗ Owes c [] ∗ Sndw 12 c) -∗ Kt v))
      ⊢ wp frame (wpE (defs₀ (F := F)) 𝒱₀ (c : Thread nD τ) none) Set.univ
          (k0_part22 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v2 v3 v5 v7) Kt := by
  rw [k0_part22_eq_skeleton]; unfold k0_part22_skel
  simp only [Prog.lift, Prog.bind_op, Prog.bind_ret, Prog.pure_eq_ret]
  iintro ⟨#HE, HO, Hr4, HD12, Ht12, Hh12, Hk⟩
  iapply (recv_step A B K c 4 [12] (by decide) (fun _ => by rfl)) $$ [Hr4 HO]
  · isplitr; · iexact HE
    isplitl [Hr4]; · iexact Hr4
    iexact HO
  iintro ⟨HO, HG4, Hd4⟩
  ihave HG4 := (Entails.of_eq (recvPay_4 A B c)) $$ HG4
  iapply (load_at c M10 _ subset_rfl) $$ HD12; iintro HD12
  iapply (load_at c M9 _ subset_rfl) $$ HG4; iintro HG4
  iapply (load_at c M10 _ subset_rfl) $$ HD12; iintro HD12
  iapply (store_at c M10 (Memref.isWhole_whole _) _ subset_rfl) $$ HD12; iintro HD12
  ihave HD12 := (Entails.of_eq (held_put_base M10 c _ _ junk _)) $$ HD12
  ihave HD12 := (Entails.of_eq (sendPay_12 A B c).symm) $$ HD12
  iapply (send_piece A B K c _ 12 [] (dev18_eq c) M10 M11 _ _ _ (x12 A B c) rfl rfl rfl (by rfl) (by rfl) (by rfl)) $$ [Ht12 HO HD12 Hh12]
  · isplitr; · iexact HE
    isplitl [Ht12]; · iexact Ht12
    isplitl [HO]; · iexact HO
    isplitl [HD12]; · iexact HD12
    iexact Hh12
  iintro ⟨HO, Hw12⟩
  ihave HG4 := (Entails.of_eq (recvPay_4 A B c).symm) $$ HG4
  rw [wp_ret]; imodintro
  unfold Got
  iapply Hk
  isplitl [HG4 Hd4]
  · isplitl [HG4]; · iexact HG4
    iexact Hd4
  isplitl [HO]; · iexact HO
  iexact Hw12

end Cert.Cube

end
-- ==== Proof.PartsC.lean ====
/-
# The kernel's parts 23 to 32: the result, and the completion of the copies
-/
module

public import proofs.«01_k».proof.Proof.Regions

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

variable (A : Dev nD → Vec F S2048x1024 .bf16) (B : Dev nD → Vec F S1024x2048 .bf16) (K : Dev nD × Fin 31 → ℕ)

/-- Part 23: the device's own product, and copy 14 has arrived. -/
theorem part23 (c : Dev nD) (v3 v5 v7 v669 : BitVec 32) (Kt : _ → sProp 𝕄) :
    iprop(Env A B K ∗ held c M0 M0.view.set (A c) ∗ held c M3 M3.view.set (B c) ∗ Owes c [] ∗ Rcv 14 c
        ∗ (∀ v, (held c M0 M0.view.set (A c) ∗ held c M3 M3.view.set (B c) ∗ Owes c [] ∗ Got A B 14 c) -∗ Kt ⟨own A B c, v⟩))
      ⊢ wp frame (wpE (defs₀ (F := F)) 𝒱₀ (c : Thread nD τ) none) Set.univ
          (k0_part23 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 c v3 v5 v7 v669) Kt := by
  rw [k0_part23_eq_skeleton]; unfold k0_part23_skel
  simp only [Prog.lift, Prog.bind_op, Prog.bind_ret, Prog.pure_eq_ret]
  iintro ⟨#HE, HA, HW, HO, Hr14, Hk⟩
  iapply (load_at c M0 _ (reg_sub M0 _)) $$ HA; iintro HA
  iapply (load_full c M3 _ (reg_sub M3 _)) $$ HW; iintro HW
  iapply (recv_step A B K c 14 [] (by decide) (fun _ => by rfl)) $$ [Hr14 HO]
  · isplitr; · iexact HE
    isplitl [Hr14]; · iexact Hr14
    iexact HO
  iintro ⟨HO, HG14, Hd14⟩
  rw [wp_ret]; imodintro
  unfold Got
  iapply Hk
  isplitl [HA]; · iexact HA
  isplitl [HW]; · iexact HW
  isplitl [HO]; · iexact HO
  isplitl [HG14]; · iexact HG14
  iexact Hd14

/-- Part 24: copies 9 and 11 have arrived; the first two summands of the first columns. -/
theorem part24 (c : Dev nD) (v3 v5 v7 v697 : BitVec 32) (Kt : _ → sProp 𝕄) :
    iprop(Env A B K ∗ Owes c [] ∗ Rcv 9 c ∗ Rcv 11 c ∗ Got A B 14 c
        ∗ ((Got A B 9 c ∗ Owes c [] ∗ Got A B 11 c ∗ Got A B 14 c) -∗ Kt (k0_pay29 (own A B c) (window (x14 A B (peer 2 c)) ![2, 0, 0] S1x256x768.size inb_S3x256x2048_S1x256x768_2_0_0) (window (x9 A B (peer 0 c)) ![0, 0, 0] S1x256x768.size inb_S3x256x2048_S1x256x768_0_0_0))))
      ⊢ wp frame (wpE (defs₀ (F := F)) 𝒱₀ (c : Thread nD τ) none) Set.univ
          (k0_part24 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7 (own A B c) v697) Kt := by
  rw [k0_part24_eq_skeleton]; unfold k0_part24_skel
  simp only [Prog.lift, Prog.bind_op, Prog.bind_ret, Prog.pure_eq_ret]
  unfold Got
  iintro ⟨#HE, HO, Hr9, Hr11, HG14, Hk⟩
  iapply (recv_step A B K c 9 [] (by decide) (fun _ => by rfl)) $$ [Hr9 HO]
  · isplitr; · iexact HE
    isplitl [Hr9]; · iexact Hr9
    iexact HO
  iintro ⟨HO, HG9, Hd9⟩
  ihave HG9 := (Entails.of_eq (recvPay_9 A B c)) $$ HG9
  iapply (recv_step A B K c 11 [] (by decide) (fun _ => by rfl)) $$ [Hr11 HO]
  · isplitr; · iexact HE
    isplitl [Hr11]; · iexact Hr11
    iexact HO
  iintro ⟨HO, HG11, Hd11⟩
  icases HG14 with ⟨HG14, Hd14⟩
  ihave HG14 := (Entails.of_eq (recvPay_14 A B c)) $$ HG14
  iapply (load_at c M11 _ subset_rfl) $$ HG14; iintro HG14
  iapply (load_at c M11 _ subset_rfl) $$ HG9; iintro HG9
  ihave HG9 := (Entails.of_eq (recvPay_9 A B c).symm) $$ HG9
  ihave HG14 := (Entails.of_eq (recvPay_14 A B c).symm) $$ HG14
  rw [wp_ret]; imodintro
  iapply Hk
  isplitl [HG9 Hd9]
  · isplitl [HG9]; · iexact HG9
    iexact Hd9
  isplitl [HO]; · iexact HO
  isplitl [HG11 Hd11]
  · isplitl [HG11]; · iexact HG11
    iexact Hd11
  isplitl [HG14]; · iexact HG14
  iexact Hd14

/-- Part 25: the first columns of the result; copy 13 has arrived. -/
theorem part25 (c : Dev nD) (v3 v5 v7 : BitVec 32) (z : Vec F S256x2048 .f32) (Kt : _ → sProp 𝕄) :
    iprop(Env A B K ∗ Got A B 11 c ∗ held c M2 M2.view.set (z) ∗ Owes c [] ∗ Rcv 13 c
        ∗ (∀ v, (Got A B 11 c ∗ held c M2 M2.view.set (put z ![0, 0] S256x768.size (o0 A B c)) ∗ Owes c [] ∗ Got A B 13 c) -∗ Kt v))
      ⊢ wp frame (wpE (defs₀ (F := F)) 𝒱₀ (c : Thread nD τ) none) Set.univ
          (k0_part25 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7 (k0_pay29 (own A B c) (window (x14 A B (peer 2 c)) ![2, 0, 0] S1x256x768.size inb_S3x256x2048_S1x256x768_2_0_0) (window (x9 A B (peer 0 c)) ![0, 0, 0] S1x256x768.size inb_S3x256x2048_S1x256x768_0_0_0))) Kt := by
  rw [k0_part25_eq_skeleton]; unfold k0_part25_skel
  simp only [Prog.lift, Prog.bind_op, Prog.bind_ret, Prog.pure_eq_ret]
  unfold Got
  iintro ⟨#HE, HG11, HZ, HO, Hr13, Hk⟩
  icases HG11 with ⟨HG11, Hd11⟩
  ihave HG11 := (Entails.of_eq (recvPay_11 A B c)) $$ HG11
  iapply (load_at c M11 _ (reg_subset M11 _ _ (by decide))) $$ HG11; iintro HG11
  iapply (load_at c M2 _ (reg_sub M2 _)) $$ HZ; iintro HZ
  iapply (store_at c M2 (Memref.isWhole_whole _) _ (reg_sub M2 _)) $$ HZ; iintro HZ
  iapply (recv_step A B K c 13 [] (by decide) (fun _ => by rfl)) $$ [Hr13 HO]
  · isplitr; · iexact HE
    isplitl [Hr13]; · iexact Hr13
    iexact HO
  iintro ⟨HO, HG13, Hd13⟩
  ihave HG11 := (Entails.of_eq (recvPay_11 A B c).symm) $$ HG11
  rw [wp_ret]; imodintro
  iapply Hk
  isplitl [HG11 Hd11]
  · isplitl [HG11]; · iexact HG11
    iexact Hd11
  isplitl [HZ]; · iexact HZ
  isplitl [HO]; · iexact HO
  isplitl [HG13]; · iexact HG13
  iexact Hd13

/-- Part 26: copy 10 has arrived; the middle columns of the result. -/
theorem part26 (c : Dev nD) (v3 v5 v7 v755 : BitVec 32) (z : Vec F S256x2048 .f32) (Kt : _ → sProp 𝕄) :
    iprop(Env A B K ∗ Owes c [] ∗ Rcv 10 c ∗ Got A B 13 c ∗ Got A B 11 c ∗ held c M2 M2.view.set (put z ![0, 0] S256x768.size (o0 A B c))
        ∗ (∀ v, (Owes c [] ∗ Got A B 10 c ∗ Got A B 13 c ∗ Got A B 11 c ∗ held c M2 M2.view.set (put (put z ![0, 0] S256x768.size (o0 A B c)) ![0, 768] S256x768.size (o1 A B c))) -∗ Kt v))
      ⊢ wp frame (wpE (defs₀ (F := F)) 𝒱₀ (c : Thread nD τ) none) Set.univ
          (k0_part26 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7 (own A B c) v755) Kt := by
  rw [k0_part26_eq_skeleton]; unfold k0_part26_skel
  simp only [Prog.lift, Prog.bind_op, Prog.bind_ret, Prog.pure_eq_ret]
  unfold Got
  iintro ⟨#HE, HO, Hr10, HG13, HG11, HZ, Hk⟩
  iapply (recv_step A B K c 10 [] (by decide) (fun _ => by rfl)) $$ [Hr10 HO]
  · isplitr; · iexact HE
    isplitl [Hr10]; · iexact Hr10
    iexact HO
  iintro ⟨HO, HG10, Hd10⟩
  ihave HG10 := (Entails.of_eq (recvPay_10 A B c)) $$ HG10
  icases HG13 with ⟨HG13, Hd13⟩
  ihave HG13 := (Entails.of_eq (recvPay_13 A B c)) $$ HG13
  iapply (load_at c M11 _ (reg_subset M11 _ _ (by decide))) $$ HG13; iintro HG13
  iapply (load_at c M11 _ (reg_subset M11 _ _ (by decide))) $$ HG10; iintro HG10
  icases HG11 with ⟨HG11, Hd11⟩
  ihave HG11 := (Entails.of_eq (recvPay_11 A B c)) $$ HG11
  iapply (load_at c M11 _ (reg_subset M11 _ _ (by decide))) $$ HG11; iintro HG11
  iapply (load_at c M2 _ (reg_sub M2 _)) $$ HZ; iintro HZ
  iapply (store_at c M2 (Memref.isWhole_whole _) _ (reg_sub M2 _)) $$ HZ; iintro HZ
  ihave HG10 := (Entails.of_eq (recvPay_10 A B c).symm) $$ HG10
  ihave HG13 := (Entails.of_eq (recvPay_13 A B c).symm) $$ HG13
  ihave HG11 := (Entails.of_eq (recvPay_11 A B c).symm) $$ HG11
  rw [wp_ret]; imodintro
  iapply Hk
  isplitl [HO]; · iexact HO
  isplitl [HG10 Hd10]
  · isplitl [HG10]; · iexact HG10
    iexact Hd10
  isplitl [HG13 Hd13]
  · isplitl [HG13]; · iexact HG13
    iexact Hd13
  isplitl [HG11 Hd11]
  · isplitl [HG11]; · iexact HG11
    iexact Hd11
  iexact HZ

/-- Part 27: copy 12 has arrived; the last columns of the result; copy 0 is complete. -/
theorem part27 (c : Dev nD) (v3 v5 v7 v785 : BitVec 32) (z : Vec F S256x2048 .f32) (Kt : _ → sProp 𝕄) :
    iprop(Env A B K ∗ Owes c [] ∗ Rcv 12 c ∗ Got A B 13 c ∗ Got A B 10 c ∗ held c M2 M2.view.set (put (put z ![0, 0] S256x768.size (o0 A B c)) ![0, 768] S256x768.size (o1 A B c)) ∗ Sndw 0 c
        ∗ (∀ v, (Got A B 12 c ∗ Got A B 13 c ∗ Got A B 10 c ∗ held c M2 M2.view.set (outOn A B c z) ∗ Owes c [] ∗ Back 0 c) -∗ Kt v))
      ⊢ wp frame (wpE (defs₀ (F := F)) 𝒱₀ (c : Thread nD τ) none) Set.univ
          (k0_part27 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7 (own A B c) v785) Kt := by
  rw [k0_part27_eq_skeleton]; unfold k0_part27_skel
  simp only [Prog.lift, Prog.bind_op, Prog.bind_ret, Prog.pure_eq_ret]
  unfold Got
  iintro ⟨#HE, HO, Hr12, HG13, HG10, HZ, Hw0, Hk⟩
  iapply (recv_step A B K c 12 [] (by decide) (fun _ => by rfl)) $$ [Hr12 HO]
  · isplitr; · iexact HE
    isplitl [Hr12]; · iexact Hr12
    iexact HO
  iintro ⟨HO, HG12, Hd12⟩
  ihave HG12 := (Entails.of_eq (recvPay_12 A B c)) $$ HG12
  icases HG13 with ⟨HG13, Hd13⟩
  ihave HG13 := (Entails.of_eq (recvPay_13 A B c)) $$ HG13
  iapply (load_at c M11 _ (reg_subset M11 _ _ (by decide))) $$ HG13; iintro HG13
  icases HG10 with ⟨HG10, Hd10⟩
  ihave HG10 := (Entails.of_eq (recvPay_10 A B c)) $$ HG10
  iapply (load_at c M11 _ (reg_subset M11 _ _ (by decide))) $$ HG10; iintro HG10
  iapply (load_at c M11 _ (reg_subset M11 _ _ (by decide))) $$ HG12; iintro HG12
  iapply (load_at c M2 _ (reg_sub M2 _)) $$ HZ; iintro HZ
  iapply (store_at c M2 (Memref.isWhole_whole _) _ (reg_sub M2 _)) $$ HZ; iintro HZ
  iapply (done_step A B K c 0 (fun _ => by rfl)) $$ [Hw0 HO]
  · isplitr; · iexact HE
    isplitl [Hw0]; · iexact Hw0
    iexact HO
  iintro ⟨HO, HS0, Hd0⟩
  ihave HG12 := (Entails.of_eq (recvPay_12 A B c).symm) $$ HG12
  ihave HG13 := (Entails.of_eq (recvPay_13 A B c).symm) $$ HG13
  ihave HG10 := (Entails.of_eq (recvPay_10 A B c).symm) $$ HG10
  ihave HS0 := (room_of_send A B 0 c) $$ HS0
  rw [wp_ret]; imodintro
  unfold Back
  iapply Hk
  isplitl [HG12 Hd12]
  · isplitl [HG12]; · iexact HG12
    iexact Hd12
  isplitl [HG13 Hd13]
  · isplitl [HG13]; · iexact HG13
    iexact Hd13
  isplitl [HG10 Hd10]
  · isplitl [HG10]; · iexact HG10
    iexact Hd10
  isplitl [HZ]; · iexact HZ
  isplitl [HO]; · iexact HO
  isplitl [HS0]; · iexact HS0
  iexact Hd0

/-- Part 28: copies 3, 4, 1 are complete. -/
theorem part28 (c : Dev nD) (v3 v5 v7 : BitVec 32) (Kt : _ → sProp 𝕄) :
    iprop(Env A B K ∗ Owes c [] ∗ Sndw 3 c ∗ Sndw 4 c ∗ Sndw 1 c
        ∗ (∀ v, (Back 3 c ∗ Back 4 c ∗ Owes c [] ∗ Back 1 c) -∗ Kt v))
      ⊢ wp frame (wpE (defs₀ (F := F)) 𝒱₀ (c : Thread nD τ) none) Set.univ
          (k0_part28 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7) Kt := by
  rw [k0_part28_eq_skeleton]; unfold k0_part28_skel
  simp only [Prog.lift, Prog.bind_op, Prog.bind_ret, Prog.pure_eq_ret]
  iintro ⟨#HE, HO, Hw3, Hw4, Hw1, Hk⟩
  iapply (done_step A B K c 3 (fun _ => by rfl)) $$ [Hw3 HO]
  · isplitr; · iexact HE
    isplitl [Hw3]; · iexact Hw3
    iexact HO
  iintro ⟨HO, HS3, Hd3⟩
  iapply (done_step A B K c 4 (fun _ => by rfl)) $$ [Hw4 HO]
  · isplitr; · iexact HE
    isplitl [Hw4]; · iexact Hw4
    iexact HO
  iintro ⟨HO, HS4, Hd4⟩
  iapply (done_step A B K c 1 (fun _ => by rfl)) $$ [Hw1 HO]
  · isplitr; · iexact HE
    isplitl [Hw1]; · iexact Hw1
    iexact HO
  iintro ⟨HO, HS1, Hd1⟩
  ihave HS1 := (room_of_send A B 1 c) $$ HS1
  ihave HS3 := (room_of_send A B 3 c) $$ HS3
  ihave HS4 := (room_of_send A B 4 c) $$ HS4
  rw [wp_ret]; imodintro
  unfold Back
  iapply Hk
  isplitl [HS3 Hd3]
  · isplitl [HS3]; · iexact HS3
    iexact Hd3
  isplitl [HS4 Hd4]
  · isplitl [HS4]; · iexact HS4
    iexact Hd4
  isplitl [HO]; · iexact HO
  isplitl [HS1]; · iexact HS1
  iexact Hd1

/-- Part 29: copies 5, 6 are complete. -/
theorem part29 (c : Dev nD) (v3 v5 v7 v839 v840 c2_i32_756 : BitVec 32) (Kt : _ → sProp 𝕄) :
    iprop(Env A B K ∗ Owes c [] ∗ Sndw 5 c ∗ Sndw 6 c
        ∗ (∀ v, (Back 5 c ∗ Owes c [] ∗ Back 6 c) -∗ Kt v))
      ⊢ wp frame (wpE (defs₀ (F := F)) 𝒱₀ (c : Thread nD τ) none) Set.univ
          (k0_part29 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7 v839 v840 c2_i32_756) Kt := by
  rw [k0_part29_eq_skeleton]; unfold k0_part29_skel
  simp only [Prog.lift, Prog.bind_op, Prog.bind_ret, Prog.pure_eq_ret]
  iintro ⟨#HE, HO, Hw5, Hw6, Hk⟩
  iapply (done_step A B K c 5 (fun _ => by rfl)) $$ [Hw5 HO]
  · isplitr; · iexact HE
    isplitl [Hw5]; · iexact Hw5
    iexact HO
  iintro ⟨HO, HS5, Hd5⟩
  iapply (done_step A B K c 6 (fun _ => by rfl)) $$ [Hw6 HO]
  · isplitr; · iexact HE
    isplitl [Hw6]; · iexact Hw6
    iexact HO
  iintro ⟨HO, HS6, Hd6⟩
  ihave HS5 := (room_of_send A B 5 c) $$ HS5
  ihave HS6 := (room_of_send A B 6 c) $$ HS6
  rw [wp_ret]; imodintro
  unfold Back
  iapply Hk
  isplitl [HS5 Hd5]
  · isplitl [HS5]; · iexact HS5
    iexact Hd5
  isplitl [HO]; · iexact HO
  isplitl [HS6]; · iexact HS6
  iexact Hd6

/-- Part 30: copies 2, 7, 8 are complete. -/
theorem part30 (c : Dev nD) (v3 v5 v7 : BitVec 32) (Kt : _ → sProp 𝕄) :
    iprop(Env A B K ∗ Owes c [] ∗ Sndw 2 c ∗ Sndw 7 c ∗ Sndw 8 c
        ∗ (∀ v, (Back 2 c ∗ Back 7 c ∗ Owes c [] ∗ Back 8 c) -∗ Kt v))
      ⊢ wp frame (wpE (defs₀ (F := F)) 𝒱₀ (c : Thread nD τ) none) Set.univ
          (k0_part30 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7) Kt := by
  rw [k0_part30_eq_skeleton]; unfold k0_part30_skel
  simp only [Prog.lift, Prog.bind_op, Prog.bind_ret, Prog.pure_eq_ret]
  iintro ⟨#HE, HO, Hw2, Hw7, Hw8, Hk⟩
  iapply (done_step A B K c 2 (fun _ => by rfl)) $$ [Hw2 HO]
  · isplitr; · iexact HE
    isplitl [Hw2]; · iexact Hw2
    iexact HO
  iintro ⟨HO, HS2, Hd2⟩
  iapply (done_step A B K c 7 (fun _ => by rfl)) $$ [Hw7 HO]
  · isplitr; · iexact HE
    isplitl [Hw7]; · iexact Hw7
    iexact HO
  iintro ⟨HO, HS7, Hd7⟩
  iapply (done_step A B K c 8 (fun _ => by rfl)) $$ [Hw8 HO]
  · isplitr; · iexact HE
    isplitl [Hw8]; · iexact Hw8
    iexact HO
  iintro ⟨HO, HS8, Hd8⟩
  ihave HS2 := (room_of_send A B 2 c) $$ HS2
  ihave HS7 := (room_of_send A B 7 c) $$ HS7
  ihave HS8 := (room_of_send A B 8 c) $$ HS8
  rw [wp_ret]; imodintro
  unfold Back
  iapply Hk
  isplitl [HS2 Hd2]
  · isplitl [HS2]; · iexact HS2
    iexact Hd2
  isplitl [HS7 Hd7]
  · isplitl [HS7]; · iexact HS7
    iexact Hd7
  isplitl [HO]; · iexact HO
  isplitl [HS8]; · iexact HS8
  iexact Hd8

/-- Part 31: copies 13, 14 are complete. -/
theorem part31 (c : Dev nD) (v3 v5 v7 : BitVec 32) (Kt : _ → sProp 𝕄) :
    iprop(Env A B K ∗ Owes c [] ∗ Sndw 13 c ∗ Sndw 14 c
        ∗ (∀ v, (Back 13 c ∗ Owes c [] ∗ Back 14 c) -∗ Kt v))
      ⊢ wp frame (wpE (defs₀ (F := F)) 𝒱₀ (c : Thread nD τ) none) Set.univ
          (k0_part31 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7) Kt := by
  rw [k0_part31_eq_skeleton]; unfold k0_part31_skel
  simp only [Prog.lift, Prog.bind_op, Prog.bind_ret, Prog.pure_eq_ret]
  iintro ⟨#HE, HO, Hw13, Hw14, Hk⟩
  iapply (done_step A B K c 13 (fun _ => by rfl)) $$ [Hw13 HO]
  · isplitr; · iexact HE
    isplitl [Hw13]; · iexact Hw13
    iexact HO
  iintro ⟨HO, HS13, Hd13⟩
  iapply (done_step A B K c 14 (fun _ => by rfl)) $$ [Hw14 HO]
  · isplitr; · iexact HE
    isplitl [Hw14]; · iexact Hw14
    iexact HO
  iintro ⟨HO, HS14, Hd14⟩
  ihave HS13 := (room_of_send A B 13 c) $$ HS13
  ihave HS14 := (room_of_send A B 14 c) $$ HS14
  rw [wp_ret]; imodintro
  unfold Back
  iapply Hk
  isplitl [HS13 Hd13]
  · isplitl [HS13]; · iexact HS13
    iexact Hd13
  isplitl [HO]; · iexact HO
  isplitl [HS14]; · iexact HS14
  iexact Hd14

/-- Part 32: copies 9, 10 are complete. -/
theorem part32 (c : Dev nD) (v3 v5 v7 v920 : BitVec 32) (Kt : _ → sProp 𝕄) :
    iprop(Env A B K ∗ Owes c [] ∗ Sndw 9 c ∗ Sndw 10 c
        ∗ (∀ v, (Back 9 c ∗ Owes c [] ∗ Back 10 c) -∗ Kt v))
      ⊢ wp frame (wpE (defs₀ (F := F)) 𝒱₀ (c : Thread nD τ) none) Set.univ
          (k0_part32 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14 v3 v5 v7 v920) Kt := by
  rw [k0_part32_eq_skeleton]; unfold k0_part32_skel
  simp only [Prog.lift, Prog.bind_op, Prog.bind_ret, Prog.pure_eq_ret]
  iintro ⟨#HE, HO, Hw9, Hw10, Hk⟩
  iapply (done_step A B K c 9 (fun _ => by rfl)) $$ [Hw9 HO]
  · isplitr; · iexact HE
    isplitl [Hw9]; · iexact Hw9
    iexact HO
  iintro ⟨HO, HS9, Hd9⟩
  iapply (done_step A B K c 10 (fun _ => by rfl)) $$ [Hw10 HO]
  · isplitr; · iexact HE
    isplitl [Hw10]; · iexact Hw10
    iexact HO
  iintro ⟨HO, HS10, Hd10⟩
  ihave HS9 := (room_of_send A B 9 c) $$ HS9
  ihave HS10 := (room_of_send A B 10 c) $$ HS10
  rw [wp_ret]; imodintro
  unfold Back
  iapply Hk
  isplitl [HS9 Hd9]
  · isplitl [HS9]; · iexact HS9
    iexact Hd9
  isplitl [HO]; · iexact HO
  isplitl [HS10]; · iexact HS10
  iexact Hd10

end Cert.Cube

end
-- ==== Proof.Body.lean ====
/-
# The body of a launch, composed

The parts run one after the other; between them the rows of the third buffer are cut into the pieces that are sent one by one.
-/
module

public import proofs.«01_k».proof.Proof.Cuts
public import proofs.«01_k».proof.Proof.PartsS
public import proofs.«01_k».proof.Proof.PartsA
public import proofs.«01_k».proof.Proof.PartsB
public import proofs.«01_k».proof.Proof.PartsC

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

variable (A : Dev nD → Vec F S2048x1024 .bf16) (B : Dev nD → Vec F S1024x2048 .bf16) (K : Dev nD × Fin 31 → ℕ)

theorem holes_across_0 (c : Dev nD) : (holes (F := F) 0 (peer 0 c)) = iprop(hole 0 (peer (lk 0) c) ∗ hole 3 (peer (lk 3) c) ∗ hole 4 (peer (lk 4) c) ∗ hole 9 (peer (lk 9) c) ∗ hole 10 (peer (lk 10) c)) := rfl
theorem holes_across_1 (c : Dev nD) : (holes (F := F) 1 (peer 1 c)) = iprop(hole 1 (peer (lk 1) c) ∗ hole 5 (peer (lk 5) c) ∗ hole 6 (peer (lk 6) c) ∗ hole 11 (peer (lk 11) c) ∗ hole 12 (peer (lk 12) c)) := rfl
theorem holes_across_2 (c : Dev nD) : (holes (F := F) 2 (peer 2 c)) = iprop(hole 2 (peer (lk 2) c) ∗ hole 7 (peer (lk 7) c) ∗ hole 8 (peer (lk 8) c) ∗ hole 13 (peer (lk 13) c) ∗ hole 14 (peer (lk 14) c)) := rfl

theorem owes_ord (c : Dev nD) : (Owes (F := F) c ord) = Owes c [0, 1, 2, 3, 5, 7, 4, 6, 8, 13, 9, 11, 14, 10, 12] := rfl

theorem row_cut_0 (c : Dev nD) (x : Vec F S3x256x2048 .bf16) :
    (held c M10 (reg M10 ![0, 0, 0] S1x256x2048.size inb_S3x256x2048_S1x256x2048_0_0_0) x : sProp 𝕄)
      ⊢ iprop(held c M10 (reg M10 ![0, 0, 0] S1x256x768.size inb_S3x256x2048_S1x256x768_0_0_0) x ∗ held c M10 (reg M10 ![0, 0, 768] S1x256x1280.size inb_S3x256x2048_S1x256x1280_0_0_768) x) :=
  held_cut M10 (k := 2) c (by decide) x

theorem row_cut_1 (c : Dev nD) (x : Vec F S3x256x2048 .bf16) :
    (held c M10 (reg M10 ![1, 0, 0] S1x256x2048.size inb_S3x256x2048_S1x256x2048_1_0_0) x : sProp 𝕄)
      ⊢ iprop(held c M10 (reg M10 ![1, 0, 0] S1x256x1536.size inb_S3x256x2048_S1x256x1536_1_0_0) x ∗ held c M10 (reg M10 ![1, 0, 1536] S1x256x512.size inb_S3x256x2048_S1x256x512_1_0_1536) x) :=
  held_cut M10 (k := 2) c (by decide) x

theorem row_cut_2 (c : Dev nD) (x : Vec F S3x256x2048 .bf16) :
    (held c M10 (reg M10 ![2, 0, 0] S1x256x2048.size inb_S3x256x2048_S1x256x2048_2_0_0) x : sProp 𝕄)
      ⊢ iprop(held c M10 (reg M10 ![2, 0, 0] S1x256x768.size inb_S3x256x2048_S1x256x768_2_0_0) x ∗ held c M10 (reg M10 ![2, 0, 768] S1x256x1280.size inb_S3x256x2048_S1x256x1280_2_0_768) x) :=
  held_cut M10 (k := 2) c (by decide) x

/-- What a device starts its body from: its buffers, the first row of tickets. -/
def bodyIn (c : Dev nD) (y : Vec F S1024x2048 .bf16) (z : Vec F S256x2048 .f32) : sProp 𝕄 :=
  iprop(Owe c (O₀ c) ∗ BarTok 0 c ∗ BarTok 1 c ∗ BarTok 2 c ∗ holes 0 c ∗ holes 1 c ∗ holes 2 c ∗ BarWait c ∗ held c M0 M0.view.set (A c) ∗ held c M1 M1.view.set (B c) ∗ held c M3 M3.view.set y ∗ held c M2 M2.view.set z ∗ room 0 c ∗ room 1 c ∗ room 2 c ∗ room 3 c ∗ room 4 c ∗ room 5 c ∗ room 6 c ∗ room 7 c ∗ room 8 c ∗ any c M10 (reg M10 ![0, 0, 0] S1x256x2048.size inb_S3x256x2048_S1x256x2048_0_0_0) ∗ any c M10 (reg M10 ![1, 0, 0] S1x256x2048.size inb_S3x256x2048_S1x256x2048_1_0_0) ∗ any c M10 (reg M10 ![2, 0, 0] S1x256x2048.size inb_S3x256x2048_S1x256x2048_2_0_0)
    ∗ (Snd 0 c ∗ Snd 1 c ∗ Snd 2 c ∗ Snd 3 c ∗ Snd 4 c ∗ Snd 5 c ∗ Snd 6 c ∗ Snd 7 c ∗ Snd 8 c ∗ Snd 9 c ∗ Snd 10 c ∗ Snd 11 c ∗ Snd 12 c ∗ Snd 13 c ∗ Snd 14 c)
    ∗ (Rcv 0 c ∗ Rcv 1 c ∗ Rcv 2 c ∗ Rcv 3 c ∗ Rcv 4 c ∗ Rcv 5 c ∗ Rcv 6 c ∗ Rcv 7 c ∗ Rcv 8 c ∗ Rcv 9 c ∗ Rcv 10 c ∗ Rcv 11 c ∗ Rcv 12 c ∗ Rcv 13 c ∗ Rcv 14 c))

/-- What it ends with: its operands and its copy of `B`, the result, nothing owed, its cells at zero and all regions back. -/
def bodyOut (c : Dev nD) (z : Vec F S256x2048 .f32) : sProp 𝕄 :=
  iprop(Owes c [] ∗ semVal (barCell c) 0 ∗ held c M0 M0.view.set (A c) ∗ held c M1 M1.view.set (B c) ∗ held c M3 M3.view.set (B c) ∗ held c M2 M2.view.set (outOn A B c z)
    ∗ (Back 0 c ∗ Back 1 c ∗ Back 2 c ∗ Back 3 c ∗ Back 4 c ∗ Back 5 c ∗ Back 6 c ∗ Back 7 c ∗ Back 8 c ∗ Back 9 c ∗ Back 10 c ∗ Back 11 c ∗ Back 12 c ∗ Back 13 c ∗ Back 14 c)
    ∗ (Got A B 0 c ∗ Got A B 1 c ∗ Got A B 2 c ∗ Got A B 3 c ∗ Got A B 4 c ∗ Got A B 5 c ∗ Got A B 6 c ∗ Got A B 7 c ∗ Got A B 8 c ∗ Got A B 9 c ∗ Got A B 10 c ∗ Got A B 11 c ∗ Got A B 12 c ∗ Got A B 13 c ∗ Got A B 14 c))

set_option maxHeartbeats 4000000 in
set_option maxRecDepth 8000 in
/-- The whole body, from `bodyIn` to `bodyOut`. -/
theorem body_run (c : Dev nD) (y : Vec F S1024x2048 .bf16) (z : Vec F S256x2048 .f32) (Kt : PUnit → sProp 𝕄) :
    iprop(Env A B K ∗ bodyIn A B c y z ∗ (bodyOut A B c z -∗ Kt ⟨⟩))
      ⊢ wp frame (wpE (defs₀ (F := F)) 𝒱₀ (c : Thread nD τ) none) Set.univ
          (cc0_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14) Kt := by
  rw [cc0_body_eq_skeleton]; unfold cc0_body_skel
  rw [wp_bind, k0_part33_eq_skeleton]; unfold k0_part33_skel
  unfold bodyIn
  iintro ⟨#HE, ⟨HO, Hb0, Hb1, Hb2, Hs0, Hs1, Hs2, HBW, HA, HB, HW, HZ, HD0, HD1, HD2, HD3, HD4, HD5, HD6, HD7, HD8, HQ0, HQ1, HQ2, ⟨Ht0, Ht1, Ht2, Ht3, Ht4, Ht5, Ht6, Ht7, Ht8, Ht9, Ht10, Ht11, Ht12, Ht13, Ht14⟩, ⟨Hr0, Hr1, Hr2, Hr3, Hr4, Hr5, Hr6, Hr7, Hr8, Hr9, Hr10, Hr11, Hr12, Hr13, Hr14⟩⟩, Hk⟩
  rw [wp_bind]
  iapply (part1 A B K c  _)
  isplitr; · iexact HE
  isplitl [HO]; · iexact HO
  isplitl [Hb0]; · iexact Hb0
  isplitl [Hb1]; · iexact Hb1
  isplitl [Hs0]; · iexact Hs0
  isplitl [Hs1]; · iexact Hs1
  iintro %v2 %v3 %v5 %v7 %v30 %v32 HO
  try dsimp only
  rw [wp_bind]
  iapply (part2 A B K c _ _ _ _ _ y _)
  isplitr; · iexact HE
  isplitl [HO]; · iexact HO
  isplitl [Hb2]; · iexact Hb2
  isplitl [Hs2]; · iexact Hs2
  isplitl [HBW]; · iexact HBW
  isplitl [HA]; · iexact HA
  isplitl [HB]; · iexact HB
  isplitl [HW]; · iexact HW
  isplitl [HD0]; · iexact HD0
  iintro %v
  rcases v with ⟨v44, v60, v63⟩
  iintro ⟨HO, Hs0, Hs1, Hs2, HZB, HA, HB, HW, HD0⟩
  try dsimp only
  ihave Hs0 := (Entails.of_eq (holes_across_0 c)) $$ Hs0
  icases Hs0 with ⟨Hh0, Hh3, Hh4, Hh9, Hh10⟩
  ihave Hs1 := (Entails.of_eq (holes_across_1 c)) $$ Hs1
  icases Hs1 with ⟨Hh1, Hh5, Hh6, Hh11, Hh12⟩
  ihave Hs2 := (Entails.of_eq (holes_across_2 c)) $$ Hs2
  icases Hs2 with ⟨Hh2, Hh7, Hh8, Hh13, Hh14⟩
  ihave HO := (Entails.of_eq (owes_ord c)) $$ HO
  rw [wp_bind]
  iapply (part3 A B K c _ _ _ _ _ _ y _)
  isplitr; · iexact HE
  isplitl [HD0]; · iexact HD0
  isplitl [Ht0]; · iexact Ht0
  isplitl [Hh0]; · iexact Hh0
  isplitl [HO]; · iexact HO
  isplitl [HB]; · iexact HB
  isplitl [HW]; · iexact HW
  isplitl [HA]; · iexact HA
  isplitl [HD1]; · iexact HD1
  iintro %v
  rcases v with ⟨v66, v95, c62⟩
  iintro ⟨HO, Hw0, HB, HA, HD1, HW⟩
  try dsimp only
  rw [wp_bind]
  iapply (part4 A B K c _ _ _ _ _ _ y _)
  isplitr; · iexact HE
  isplitl [HD1]; · iexact HD1
  isplitl [Ht1]; · iexact Ht1
  isplitl [Hh1]; · iexact Hh1
  isplitl [HO]; · iexact HO
  isplitl [HB]; · iexact HB
  isplitl [HW]; · iexact HW
  isplitl [HA]; · iexact HA
  isplitl [HD2]; · iexact HD2
  iintro %v
  iintro ⟨HO, Hw1, HB, HA, HD2, HW⟩
  try dsimp only
  rw [wp_bind]
  iapply (part5 A B K c _ _ _ _)
  isplitr; · iexact HE
  isplitl [HD2]; · iexact HD2
  isplitl [Ht2]; · iexact Ht2
  isplitl [Hh2]; · iexact Hh2
  isplitl [HO]; · iexact HO
  isplitl [HA]; · iexact HA
  isplitl [HW]; · iexact HW
  isplitl [HD3]; · iexact HD3
  iintro %v
  iintro ⟨HO, Hw2, HA, HW, HD3⟩
  try dsimp only
  rw [wp_bind]
  iapply (part6 A B K c _ _ _ _)
  isplitr; · iexact HE
  isplitl [HD3]; · iexact HD3
  isplitl [Ht3]; · iexact Ht3
  isplitl [Hh3]; · iexact Hh3
  isplitl [HO]; · iexact HO
  isplitl [HA]; · iexact HA
  isplitl [HW]; · iexact HW
  isplitl [HD5]; · iexact HD5
  iintro %v
  rcases v with ⟨v191, c135⟩
  iintro ⟨HO, Hw3, HA, HW, HD5⟩
  try dsimp only
  rw [wp_bind]
  iapply (part7 A B K c _ _ _ _ _ _)
  isplitr; · iexact HE
  isplitl [HD5]; · iexact HD5
  isplitl [Ht5]; · iexact Ht5
  isplitl [Hh5]; · iexact Hh5
  isplitl [HO]; · iexact HO
  isplitl [HA]; · iexact HA
  isplitl [HW]; · iexact HW
  isplitl [HD7]; · iexact HD7
  iintro %v
  iintro ⟨HO, Hw5, HA, HW, HD7⟩
  try dsimp only
  rw [wp_bind]
  iapply (part8 A B K c _ _ _ _ _ _)
  isplitr; · iexact HE
  isplitl [HD7]; · iexact HD7
  isplitl [Ht7]; · iexact Ht7
  isplitl [Hh7]; · iexact Hh7
  isplitl [HO]; · iexact HO
  isplitl [HA]; · iexact HA
  isplitl [HW]; · iexact HW
  isplitl [HD4]; · iexact HD4
  iintro %v
  iintro ⟨HO, Hw7, HA, HW, HD4⟩
  try dsimp only
  rw [wp_bind]
  iapply (part9 A B K c _ _ _ _)
  isplitr; · iexact HE
  isplitl [HO]; · iexact HO
  isplitl [Hr2]; · iexact Hr2
  isplitl [HD4]; · iexact HD4
  isplitl [Ht4]; · iexact Ht4
  isplitl [Hh4]; · iexact Hh4
  iintro %v
  rcases v with ⟨v284, v285⟩
  iintro ⟨HG2, HO, Hw4⟩
  try dsimp only
  rw [wp_bind]
  iapply (part10 A B K c _ _ _ _ _ _ _)
  isplitr; · iexact HE
  isplitl [HA]; · iexact HA
  isplitl [HW]; · iexact HW
  isplitl [HD6]; · iexact HD6
  isplitl [HO]; · iexact HO
  isplitl [Hr0]; · iexact Hr0
  iintro %v
  rcases v with ⟨v314, v315⟩
  iintro ⟨HA, HW, HO, HG0, HD6⟩
  try dsimp only
  rw [wp_bind]
  iapply (part11 A B K c _ _ _ _ _ _)
  isplitr; · iexact HE
  isplitl [HD6]; · iexact HD6
  isplitl [Ht6]; · iexact Ht6
  isplitl [Hh6]; · iexact Hh6
  isplitl [HO]; · iexact HO
  isplitl [HA]; · iexact HA
  isplitl [HW]; · iexact HW
  isplitl [HD8]; · iexact HD8
  iintro ⟨HO, Hw6, HA, HW, HD8⟩
  try dsimp only
  rw [wp_bind]
  iapply (part12 A B K c _ _ _ _ _)
  isplitr; · iexact HE
  isplitl [HD8]; · iexact HD8
  isplitl [HO]; · iexact HO
  isplitl [Hr1]; · iexact Hr1
  iintro %v
  iintro ⟨HO, HG1, HD8⟩
  try dsimp only
  rw [wp_bind]
  iapply (part13 A B K c _ _ _ _)
  isplitr; · iexact HE
  isplitl [HD8]; · iexact HD8
  isplitl [Ht8]; · iexact Ht8
  isplitl [Hh8]; · iexact Hh8
  isplitl [HO]; · iexact HO
  isplitl [HA]; · iexact HA
  isplitl [HW]; · iexact HW
  isplitl [HQ2]; · iexact HQ2
  iintro ⟨HO, Hw8, HA, HW, HQ2⟩
  try dsimp only
  rw [wp_bind]
  iapply (part14 A B K c _ _ _ _)
  isplitr; · iexact HE
  isplitl [HQ0]; · iexact HQ0
  isplitl [HA]; · iexact HA
  isplitl [HW]; · iexact HW
  isplitl [HQ1]; · iexact HQ1
  iintro %v
  iintro ⟨HQ0, HA, HW, HQ1⟩
  try dsimp only
  ihave HQ0 := (row_cut_0 c _) $$ HQ0
  icases HQ0 with ⟨HD9, HD10⟩
  ihave HQ1 := (row_cut_1 c _) $$ HQ1
  icases HQ1 with ⟨HD11, HD12⟩
  ihave HQ2 := (row_cut_2 c _) $$ HQ2
  icases HQ2 with ⟨HD14, HD13⟩
  rw [wp_bind]
  iapply (part15 A B K c _ _ _ _)
  isplitr; · iexact HE
  isplitl [HO]; · iexact HO
  isplitl [Hr5]; · iexact Hr5
  isplitl [HD13]; · iexact HD13
  isplitl [Ht13]; · iexact Ht13
  isplitl [Hh13]; · iexact Hh13
  iintro %v
  iintro ⟨HG5, HO, Hw13⟩
  try dsimp only
  rw [wp_bind]
  iapply (part16 A B K c _ _ _ _ _)
  isplitr; · iexact HE
  isplitl [HO]; · iexact HO
  isplitl [Hr7]; · iexact Hr7
  isplitl [HD9]; · iexact HD9
  iintro %v
  iintro ⟨HO, HG7, HD9⟩
  try dsimp only
  rw [wp_bind]
  iapply (part17 A B K c _ _ _ _ _)
  isplitr; · iexact HE
  isplitl [HD9]; · iexact HD9
  isplitl [Ht9]; · iexact Ht9
  isplitl [Hh9]; · iexact Hh9
  isplitl [HO]; · iexact HO
  isplitl [Hr3]; · iexact Hr3
  isplitl [HD11]; · iexact HD11
  iintro ⟨Hw9, HO, HG3, HD11⟩
  try dsimp only
  rw [wp_bind]
  iapply (part18 A B K c _ _ _ _)
  isplitr; · iexact HE
  isplitl [HG3]; · iexact HG3
  isplitl [HD11]; · iexact HD11
  isplitl [Ht11]; · iexact Ht11
  isplitl [Hh11]; · iexact Hh11
  isplitl [HO]; · iexact HO
  iintro %v
  iintro ⟨HG3, HO, Hw11⟩
  try dsimp only
  rw [wp_bind]
  iapply (part19 A B K c _ _ _ _ _)
  isplitr; · iexact HE
  isplitl [HO]; · iexact HO
  isplitl [Hr6]; · iexact Hr6
  isplitl [HD14]; · iexact HD14
  iintro %v
  iintro ⟨HO, HG6, HD14⟩
  try dsimp only
  rw [wp_bind]
  iapply (part20 A B K c _ _ _ _)
  isplitr; · iexact HE
  isplitl [HD14]; · iexact HD14
  isplitl [Ht14]; · iexact Ht14
  isplitl [Hh14]; · iexact Hh14
  isplitl [HO]; · iexact HO
  isplitl [Hr8]; · iexact Hr8
  isplitl [HD10]; · iexact HD10
  iintro %v
  iintro ⟨Hw14, HO, HG8, HD10⟩
  try dsimp only
  rw [wp_bind]
  iapply (part21 A B K c _ _ _ _)
  isplitr; · iexact HE
  isplitl [HD10]; · iexact HD10
  isplitl [Ht10]; · iexact Ht10
  isplitl [Hh10]; · iexact Hh10
  isplitl [HO]; · iexact HO
  iintro %v
  iintro ⟨HO, Hw10⟩
  try dsimp only
  rw [wp_bind]
  iapply (part22 A B K c _ _ _ _ _)
  isplitr; · iexact HE
  isplitl [HO]; · iexact HO
  isplitl [Hr4]; · iexact Hr4
  isplitl [HD12]; · iexact HD12
  isplitl [Ht12]; · iexact Ht12
  isplitl [Hh12]; · iexact Hh12
  iintro %v
  iintro ⟨HG4, HO, Hw12⟩
  try dsimp only
  rw [wp_bind]
  iapply (part23 A B K c _ _ _ _ _)
  isplitr; · iexact HE
  isplitl [HA]; · iexact HA
  isplitl [HW]; · iexact HW
  isplitl [HO]; · iexact HO
  isplitl [Hr14]; · iexact Hr14
  iintro %v
  iintro ⟨HA, HW, HO, HG14⟩
  try dsimp only
  rw [wp_bind]
  iapply (part24 A B K c _ _ _ _ _)
  isplitr; · iexact HE
  isplitl [HO]; · iexact HO
  isplitl [Hr9]; · iexact Hr9
  isplitl [Hr11]; · iexact Hr11
  isplitl [HG14]; · iexact HG14
  iintro ⟨HG9, HO, HG11, HG14⟩
  try dsimp only
  rw [wp_bind]
  iapply (part25 A B K c _ _ _ z _)
  isplitr; · iexact HE
  isplitl [HG11]; · iexact HG11
  isplitl [HZ]; · iexact HZ
  isplitl [HO]; · iexact HO
  isplitl [Hr13]; · iexact Hr13
  iintro %v
  iintro ⟨HG11, HZ, HO, HG13⟩
  try dsimp only
  rw [wp_bind]
  iapply (part26 A B K c _ _ _ _ z _)
  isplitr; · iexact HE
  isplitl [HO]; · iexact HO
  isplitl [Hr10]; · iexact Hr10
  isplitl [HG13]; · iexact HG13
  isplitl [HG11]; · iexact HG11
  isplitl [HZ]; · iexact HZ
  iintro %v
  iintro ⟨HO, HG10, HG13, HG11, HZ⟩
  try dsimp only
  rw [wp_bind]
  iapply (part27 A B K c _ _ _ _ z _)
  isplitr; · iexact HE
  isplitl [HO]; · iexact HO
  isplitl [Hr12]; · iexact Hr12
  isplitl [HG13]; · iexact HG13
  isplitl [HG10]; · iexact HG10
  isplitl [HZ]; · iexact HZ
  isplitl [Hw0]; · iexact Hw0
  iintro %v
  iintro ⟨HG12, HG13, HG10, HZ, HO, HS0⟩
  try dsimp only
  rw [wp_bind]
  iapply (part28 A B K c _ _ _ _)
  isplitr; · iexact HE
  isplitl [HO]; · iexact HO
  isplitl [Hw3]; · iexact Hw3
  isplitl [Hw4]; · iexact Hw4
  isplitl [Hw1]; · iexact Hw1
  iintro %v
  rcases v with ⟨v839, v840, c756⟩
  iintro ⟨HS3, HS4, HO, HS1⟩
  try dsimp only
  rw [wp_bind]
  iapply (part29 A B K c _ _ _ _ _ _ _)
  isplitr; · iexact HE
  isplitl [HO]; · iexact HO
  isplitl [Hw5]; · iexact Hw5
  isplitl [Hw6]; · iexact Hw6
  iintro %v
  iintro ⟨HS5, HO, HS6⟩
  try dsimp only
  rw [wp_bind]
  iapply (part30 A B K c _ _ _ _)
  isplitr; · iexact HE
  isplitl [HO]; · iexact HO
  isplitl [Hw2]; · iexact Hw2
  isplitl [Hw7]; · iexact Hw7
  isplitl [Hw8]; · iexact Hw8
  iintro %v
  iintro ⟨HS2, HS7, HO, HS8⟩
  try dsimp only
  rw [wp_bind]
  iapply (part31 A B K c _ _ _ _)
  isplitr; · iexact HE
  isplitl [HO]; · iexact HO
  isplitl [Hw13]; · iexact Hw13
  isplitl [Hw14]; · iexact Hw14
  iintro %v
  iintro ⟨HS13, HO, HS14⟩
  try dsimp only
  rw [wp_bind]
  iapply (part32 A B K c _ _ _ _ _)
  isplitr; · iexact HE
  isplitl [HO]; · iexact HO
  isplitl [Hw9]; · iexact Hw9
  isplitl [Hw10]; · iexact Hw10
  iintro %v
  rcases v with ⟨v946, v947⟩
  iintro ⟨HS9, HO, HS10⟩
  try dsimp only
  simp only [Prog.lift, Prog.bind_op, Prog.bind_ret, Prog.pure_eq_ret]
  iapply (done_step A B K c 11 (fun _ => by rfl)) $$ [Hw11 HO]
  · isplitr; · iexact HE
    isplitl [Hw11]; · iexact Hw11
    iexact HO
  iintro ⟨HO, HS11, Hd11⟩
  ihave HS11 := (room_of_send A B 11 c) $$ HS11
  rw [wp_ret]; imodintro
  iapply (done_step A B K c 12 (fun _ => by rfl)) $$ [Hw12 HO]
  · isplitr; · iexact HE
    isplitl [Hw12]; · iexact Hw12
    iexact HO
  iintro ⟨HO, HS12, Hd12⟩
  ihave HS12 := (room_of_send A B 12 c) $$ HS12
  rw [wp_ret]; imodintro
  iapply Hk
  unfold bodyOut
  isplitl [HO]; · iexact HO
  isplitl [HZB]; · iexact HZB
  isplitl [HA]; · iexact HA
  isplitl [HB]; · iexact HB
  isplitl [HW]; · iexact HW
  isplitl [HZ]; · iexact HZ
  isplitl [HS0 HS1 HS2 HS3 HS4 HS5 HS6 HS7 HS8 HS9 HS10 HS11 HS12 HS13 HS14 Hd11 Hd12]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11 Hd11]
    · unfold Back
      isplitl [HS11]; · iexact HS11
      iexact Hd11
    isplitl [HS12 Hd12]
    · unfold Back
      isplitl [HS12]; · iexact HS12
      iexact Hd12
    isplitl [HS13]; · iexact HS13
    iexact HS14
  isplitl [HG0]; · iexact HG0
  isplitl [HG1]; · iexact HG1
  isplitl [HG2]; · iexact HG2
  isplitl [HG3]; · iexact HG3
  isplitl [HG4]; · iexact HG4
  isplitl [HG5]; · iexact HG5
  isplitl [HG6]; · iexact HG6
  isplitl [HG7]; · iexact HG7
  isplitl [HG8]; · iexact HG8
  isplitl [HG9]; · iexact HG9
  isplitl [HG10]; · iexact HG10
  isplitl [HG11]; · iexact HG11
  isplitl [HG12]; · iexact HG12
  isplitl [HG13]; · iexact HG13
  iexact HG14

end Cert.Cube

end
-- ==== Proof.Enter.lean ====
/-
# Entering and leaving the body

What a launch hands a device, regrouped into what the body is given; and what the body leaves, regrouped into what the launch takes back.
-/
module

public import proofs.«01_k».proof.Proof.Ghost
public import proofs.«01_k».proof.Proof.Cuts
public import proofs.«01_k».proof.Proof.Body

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

theorem over15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem over3 (Φ : Fin 3 → sProp 𝕄) : bigSep Finset.univ Φ = iprop(Φ 0 ∗ Φ 1 ∗ Φ 2) :=
  bigSep_univ_eq_bigSepL [0, 1, 2] (by decide) (by decide) Φ

theorem held_whole (c : Dev nD) (b : Ref sig .tc) (f : Buf (Elt F) ((c : Thread nD τ).loc b)) :
    (((c : Thread nD τ).loc b) ↦{fullShare} f : sProp 𝕄) = held c (Memref.whole b) (Memref.whole b).view.set f := by
  have h := held_of_pointsTo (F := F) (Memref.whole b) (Memref.isWhole_whole b) c (Memref.whole b).view.set f
  simp only [Memref.view_whole, View.set_whole, View.read_whole] at h ⊢
  exact h

/-- What a device starts with, apart from memory: what all know of the cells, its own positions and rights, its credit and the levels. -/
def start (A : Dev nD → Vec F S2048x1024 .bf16) (B : Dev nD → Vec F S1024x2048 .bf16) (c : Dev nD) : sProp 𝕄 :=
  iprop((∃ K, records A B K ∗ mine c) ∗ (cred (tallyAt (barCell c) () 3) ∗ bigSep Finset.univ fun t => cred (tallyAt (rcvCell t c) () (amt t))) ∗ levAts L lv)

/-- The start, sorted by barrier, outgoing copies and incoming copies. -/
theorem start_sorted (A : Dev nD → Vec F S2048x1024 .bf16) (B : Dev nD → Vec F S1024x2048 .bf16) (c : Dev nD) :
    start A B c ⊢ iprop(∃ K, Env A B K ∗ (bigSep Finset.univ fun l : Fin 3 => BarTok l c) ∗ BarWait c
      ∗ (bigSep Finset.univ fun t : Fin 15 => Snd t c) ∗ (bigSep Finset.univ fun t : Fin 15 => Rcv t c)) := by
  unfold start records mine payToks
  simp only [over_cells, kcell_snd, kcell_rcv, kcell_bar]
  iintro ⟨⟨%K, Hrec, ⟨HpB, HpS, HpR⟩, Hbt, HtS, HtR⟩, ⟨HcB, HcR⟩, HL⟩
  iexists K
  unfold Env
  isplitl [Hrec HL]
  · isplitl [Hrec] <;> iassumption
  isplitl [Hbt]; · iexact Hbt
  isplitl [HcB HpB]
  · unfold BarWait; isplitl [HcB] <;> iassumption
  unfold Snd Rcv
  simp only [bigSep_sep']
  isplitl [HtS HtR HpS]
  · isplitl [HtS]; · iexact HtS
    isplitl [HtR] <;> iassumption
  · isplitl [HcR] <;> iassumption

/-- The scratch buffers, cut into the regions of the copies. -/
def cuts (c : Dev nD) : sProp 𝕄 :=
  iprop((any c M3 M3.view.set) ∗ (room 0 c ∗ room 1 c ∗ room 2 c ∗ room 3 c ∗ room 4 c ∗ room 5 c ∗ room 6 c ∗ room 7 c ∗ room 8 c)
    ∗ any c M10 (reg M10 ![0, 0, 0] S1x256x2048.size inb_S3x256x2048_S1x256x2048_0_0_0) ∗ any c M10 (reg M10 ![1, 0, 0] S1x256x2048.size inb_S3x256x2048_S1x256x2048_1_0_0) ∗ any c M10 (reg M10 ![2, 0, 0] S1x256x2048.size inb_S3x256x2048_S1x256x2048_2_0_0)
    ∗ hole 0 c ∗ hole 1 c ∗ hole 2 c ∗ hole 3 c ∗ hole 4 c ∗ hole 5 c ∗ hole 6 c ∗ hole 7 c ∗ hole 8 c ∗ hole 9 c ∗ hole 10 c ∗ hole 11 c ∗ hole 12 c ∗ hole 13 c ∗ hole 14 c)

theorem scratch_eq (c : Dev nD) :
    (Pipeline.scopedRest (Ix := Unit) (Name := ℕ) (U := UU) (Lvl := ℕ) (Val := Elt F) cfg0.spec c : sProp 𝕄)
      = iprop(any c M3 M3.view.set ∗ any c M4 M4.view.set ∗ hole 0 c ∗ hole 1 c ∗ hole 2 c ∗ any c M8 M8.view.set ∗ any c M9 M9.view.set
        ∗ any c M10 M10.view.set ∗ any c M11 M11.view.set) := by
  rw [show (Pipeline.scopedRest cfg0.spec c : sProp 𝕄) = Pipeline.scopedRest spec0 c from rfl, scopedRest0_eq]
  rw [show (hole 0 c : sProp 𝕄) = any c M5 M5.view.set from rfl, show (hole 1 c : sProp 𝕄) = any c M6 M6.view.set from rfl,
    show (hole 2 c : sProp 𝕄) = any c M7 M7.view.set from rfl]
  rw [show M3 = Memref.whole cc0_scratch0 from rfl, any_whole, show M4 = Memref.whole cc0_scratch1 from rfl, any_whole, show M5 = Memref.whole cc0_scratch2 from rfl, any_whole, show M6 = Memref.whole cc0_scratch3 from rfl, any_whole,
    show M7 = Memref.whole cc0_scratch4 from rfl, any_whole, show M8 = Memref.whole cc0_scratch5 from rfl, any_whole, show M9 = Memref.whole cc0_scratch6 from rfl, any_whole, show M10 = Memref.whole cc0_scratch7 from rfl, any_whole,
    show M11 = Memref.whole cc0_scratch8 from rfl, any_whole]

theorem scratch_cut (c : Dev nD) :
    (Pipeline.scopedRest (Ix := Unit) (Name := ℕ) (U := UU) (Lvl := ℕ) (Val := Elt F) cfg0.spec c : sProp 𝕄) ⊢ cuts c := by
  rw [scratch_eq, cut_M4, cut_M8, cut_M9, rows c M10 (Memref.isWhole_whole _), cut_M11]
  iintro ⟨HW, ⟨R0, R1, R2⟩, H0, H1, H2, ⟨⟨R3, R4⟩, ⟨R6, R5⟩, R7, R8⟩, ⟨⟨H3, H4⟩, ⟨H6, H5⟩, H7, H8⟩, ⟨Q0, Q1, Q2⟩, ⟨⟨H9, H10⟩, ⟨H11, H12⟩, H14, H13⟩⟩
  unfold cuts
  isplitl [HW]; · iexact HW
  isplitl [R0 R1 R2 R3 R4 R5 R6 R7 R8]
  · skip
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  isplitl [Q0]; · iexact Q0
  isplitl [Q1]; · iexact Q1
  isplitl [Q2]; · iexact Q2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The regions, put together again. -/
theorem scratch_uncut (c : Dev nD) :
    iprop(any c M3 M3.view.set ∗ (room 0 c ∗ room 1 c ∗ room 2 c ∗ room 3 c ∗ room 4 c ∗ room 5 c ∗ room 6 c ∗ room 7 c ∗ room 8 c ∗ room 9 c ∗ room 10 c ∗ room 11 c ∗ room 12 c ∗ room 13 c ∗ room 14 c) ∗ hole 0 c ∗ hole 1 c ∗ hole 2 c ∗ hole 3 c ∗ hole 4 c ∗ hole 5 c ∗ hole 6 c ∗ hole 7 c ∗ hole 8 c ∗ hole 9 c ∗ hole 10 c ∗ hole 11 c ∗ hole 12 c ∗ hole 13 c ∗ hole 14 c)
      ⊢ (Pipeline.scopedRest (Ix := Unit) (Name := ℕ) (U := UU) (Lvl := ℕ) (Val := Elt F) cfg0.spec c : sProp 𝕄) := by
  rw [scratch_eq, cut_M4, cut_M8, cut_M9, cut_M10, cut_M11]
  iintro ⟨HW, ⟨R0, R1, R2, R3, R4, R5, R6, R7, R8, R9, R10, R11, R12, R13, R14⟩, H0, H1, H2, H3, H4, H5, H6, H7, H8, H9, H10, H11, H12, H13, H14⟩
  isplitl [HW]; · iexact HW
  isplitl [R0 R1 R2]
  · isplitl [R0]; · iexact R0
    isplitl [R1] <;> iassumption
  isplitl [H0]; · iexact H0
  isplitl [H1]; · iexact H1
  isplitl [H2]; · iexact H2
  isplitl [R3 R4 R5 R6 R7 R8]
  · isplitl [R3 R4]
    · isplitl [R3] <;> iassumption
    isplitl [R5 R6]
    · isplitl [R6] <;> iassumption
    isplitl [R7] <;> iassumption
  isplitl [H3 H4 H5 H6 H7 H8]
  · isplitl [H3 H4]
    · isplitl [H3] <;> iassumption
    isplitl [H5 H6]
    · isplitl [H6] <;> iassumption
    isplitl [H7] <;> iassumption
  isplitl [R9 R10 R11 R12 R13 R14]
  · isplitl [R9 R10]
    · isplitl [R9] <;> iassumption
    isplitl [R11 R12]
    · isplitl [R11] <;> iassumption
    isplitl [R14] <;> iassumption
  isplitl [H9 H10]
  · isplitl [H9] <;> iassumption
  isplitl [H11 H12]
  · isplitl [H11] <;> iassumption
  isplitl [H14] <;> iassumption

section
variable (A : Dev nD → Vec F S2048x1024 .bf16) (B : Dev nD → Vec F S1024x2048 .bf16)

set_option maxHeartbeats 2000000 in
/-- What the body is given. -/
theorem enter (c : Dev nD) (z : Vec F S256x2048 .f32) :
    iprop(start A B c ∗ Pipeline.scopedRest (Ix := Unit) (Name := ℕ) (U := UU) (Lvl := ℕ) (Val := Elt F) cfg0.spec c ∗ Owe c (O₀ c)
        ∗ held c M0 M0.view.set (A c) ∗ held c M1 M1.view.set (B c) ∗ held c M2 M2.view.set z)
      ⊢ iprop(∃ K, Env A B K ∗ ∃ y, bodyIn A B c y z) := by
  iintro ⟨Hs, Hr, HO, HA, HB, HZ⟩
  ihave Hs := (start_sorted A B c) $$ Hs
  icases Hs with ⟨%K, HE, Hb, HBW, HS, HV⟩
  ihave Hr := (scratch_cut (F := F) c) $$ Hr
  unfold cuts
  icases Hr with ⟨⟨%y, HW⟩, ⟨R0, R1, R2, R3, R4, R5, R6, R7, R8⟩, Q0, Q1, Q2, H0, H1, H2, H3, H4, H5, H6, H7, H8, H9, H10, H11, H12, H13, H14⟩
  ihave Hb := (Entails.of_eq (over3 fun l => BarTok (F := F) l c)) $$ Hb
  icases Hb with ⟨Hb0, Hb1, Hb2⟩
  ihave HS := (Entails.of_eq (over15 fun t => Snd (F := F) t c)) $$ HS
  ihave HV := (Entails.of_eq (over15 fun t => Rcv (F := F) t c)) $$ HV
  iexists K
  isplitl [HE]; · iexact HE
  iexists y
  unfold bodyIn
  isplitl [HO]; · iexact HO
  isplitl [Hb0]; · iexact Hb0
  isplitl [Hb1]; · iexact Hb1
  isplitl [Hb2]; · iexact Hb2
  isplitl [H0 H3 H4 H9 H10]
  · unfold holes
    isplitl [H0]; · iexact H0
    isplitl [H3]; · iexact H3
    isplitl [H4]; · iexact H4
    isplitl [H9]; · iexact H9
    iexact H10
  isplitl [H1 H5 H6 H11 H12]
  · unfold holes
    isplitl [H1]; · iexact H1
    isplitl [H5]; · iexact H5
    isplitl [H6]; · iexact H6
    isplitl [H11]; · iexact H11
    iexact H12
  isplitl [H2 H7 H8 H13 H14]
  · unfold holes
    isplitl [H2]; · iexact H2
    isplitl [H7]; · iexact H7
    isplitl [H8]; · iexact H8
    isplitl [H13]; · iexact H13
    iexact H14
  isplitl [HBW]; · iexact HBW
  isplitl [HA]; · iexact HA
  isplitl [HB]; · iexact HB
  isplitl [HW]; · iexact HW
  isplitl [HZ]; · iexact HZ
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [Q0]; · iexact Q0
  isplitl [Q1]; · iexact Q1
  isplitl [Q2]; · iexact Q2
  isplitl [HS]; · iexact HS
  iexact HV

set_option maxHeartbeats 2000000 in
/-- What the body leaves: the operands, the result, all cells at zero and the scratch buffers. -/
theorem leave (c : Dev nD) (z : Vec F S256x2048 .f32) :
    bodyOut A B c z ⊢ iprop((unscopedSems0 c ∗ Pipeline.ownSems0 (Ix := Unit) (Name := ℕ) (U := UU) (Lvl := ℕ) (Val := Elt F) (τ := τ) osem c
        ∗ Pipeline.scopedRest (Ix := Unit) (Name := ℕ) (U := UU) (Lvl := ℕ) (Val := Elt F) cfg0.spec c)
      ∗ Owe c 0 ∗ held c M0 M0.view.set (A c) ∗ held c M1 M1.view.set (B c) ∗ held c M2 M2.view.set (outAt A B c)) := by
  rw [ownSems0_eq, unscopedSems0_eq, over15, over15, ← outOn_eq (A := A) (B := B) (c := c) (z := z)]
  unfold bodyOut Back Got
  iintro ⟨HO, HZ, HA, HB, HW, HU, ⟨⟨R0, S0⟩, ⟨R1, S1⟩, ⟨R2, S2⟩, ⟨R3, S3⟩, ⟨R4, S4⟩, ⟨R5, S5⟩, ⟨R6, S6⟩, ⟨R7, S7⟩, ⟨R8, S8⟩, ⟨R9, S9⟩, ⟨R10, S10⟩, ⟨R11, S11⟩, ⟨R12, S12⟩, ⟨R13, S13⟩, ⟨R14, S14⟩⟩, ⟨H0, V0⟩, ⟨H1, V1⟩, ⟨H2, V2⟩, ⟨H3, V3⟩, ⟨H4, V4⟩, ⟨H5, V5⟩, ⟨H6, V6⟩, ⟨H7, V7⟩, ⟨H8, V8⟩, ⟨H9, V9⟩, ⟨H10, V10⟩, ⟨H11, V11⟩, ⟨H12, V12⟩, ⟨H13, V13⟩, ⟨H14, V14⟩⟩
  isplitl [HZ S0 V0 R0 H0 S1 V1 R1 H1 S2 V2 R2 H2 S3 V3 R3 H3 S4 V4 R4 H4 S5 V5 R5 H5 S6 V6 R6 H6 S7 V7 R7 H7 S8 V8 R8 H8 S9 V9 R9 H9 S10 V10 R10 H10 S11 V11 R11 H11 S12 V12 R12 H12 S13 V13 R13 H13 S14 V14 R14 H14 HW]
  · isplitl [HZ]; · iexact HZ
    isplitl [S0 V0 S1 V1 S2 V2 S3 V3 S4 V4 S5 V5 S6 V6 S7 V7 S8 V8 S9 V9 S10 V10 S11 V11 S12 V12 S13 V13 S14 V14]
    · isplitl [S0 S1 S2 S3 S4 S5 S6 S7 S8 S9 S10 S11 S12 S13 S14]
      · skip
        isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        iexact S14
      · skip
        isplitl [V0]; · iexact V0
        isplitl [V1]; · iexact V1
        isplitl [V2]; · iexact V2
        isplitl [V3]; · iexact V3
        isplitl [V4]; · iexact V4
        isplitl [V5]; · iexact V5
        isplitl [V6]; · iexact V6
        isplitl [V7]; · iexact V7
        isplitl [V8]; · iexact V8
        isplitl [V9]; · iexact V9
        isplitl [V10]; · iexact V10
        isplitl [V11]; · iexact V11
        isplitl [V12]; · iexact V12
        isplitl [V13]; · iexact V13
        iexact V14
    iapply (scratch_uncut (F := F) c)
    isplitl [HW]; · iexists _; iexact HW
    isplitl [R0 R1 R2 R3 R4 R5 R6 R7 R8 R9 R10 R11 R12 R13 R14]
    · skip
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact R14
    isplitl [H0]; · iapply (hole_of_recv A B 0 c); iexact H0
    isplitl [H1]; · iapply (hole_of_recv A B 1 c); iexact H1
    isplitl [H2]; · iapply (hole_of_recv A B 2 c); iexact H2
    isplitl [H3]; · iapply (hole_of_recv A B 3 c); iexact H3
    isplitl [H4]; · iapply (hole_of_recv A B 4 c); iexact H4
    isplitl [H5]; · iapply (hole_of_recv A B 5 c); iexact H5
    isplitl [H6]; · iapply (hole_of_recv A B 6 c); iexact H6
    isplitl [H7]; · iapply (hole_of_recv A B 7 c); iexact H7
    isplitl [H8]; · iapply (hole_of_recv A B 8 c); iexact H8
    isplitl [H9]; · iapply (hole_of_recv A B 9 c); iexact H9
    isplitl [H10]; · iapply (hole_of_recv A B 10 c); iexact H10
    isplitl [H11]; · iapply (hole_of_recv A B 11 c); iexact H11
    isplitl [H12]; · iapply (hole_of_recv A B 12 c); iexact H12
    isplitl [H13]; · iapply (hole_of_recv A B 13 c); iexact H13
    iapply (hole_of_recv A B 14 c); iexact H14
  isplitl [HO]; · iexact HO
  isplitl [HA]; · iexact HA
  isplitl [HB]; · iexact HB
  iexact HU

end

end Cert.Cube

end
-- ==== Proof.Run.lean ====
/-
# The run

Every weakly fair execution of the kernel ends, with each device's result at the contents `outAt` computes from all devices' operands, its
operands as they were and every semaphore counter at zero. Stated once, over any float values.
-/
module

public import proofs.«01_k».proof.Proof.Enter
public import proofs.«01_k».proof.Proof.Gen.KernelIdeal.Points
public import Idealize.ShloMosaic.Lib.Pipeline.CollectiveSegs

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-- A device's operands, as the launch stages them. -/
def opA (c : Dev nD) : Vec F S2048x1024 .bf16 := (win0_0.blk t0_0).view.read (Elt F) ((s₀ m ρ).mem ((c : Thread nD τ).loc main_arg0))
def opB (c : Dev nD) : Vec F S1024x2048 .bf16 := (win0_1.blk t0_0).view.read (Elt F) ((s₀ m ρ).mem ((c : Thread nD τ).loc main_arg1))

def phi1 (c : Dev nD) : sProp 𝕄 :=
  iprop(unscopedSems0 c ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) cfg0.spec c)

def phi0 (c : Dev nD) : sProp 𝕄 :=
  iprop(start (opA m ρ) (opB m ρ) c ∗ Pipeline.scopedRest (Ix := Unit) (Name := ℕ) (U := UU) (Lvl := ℕ) (Val := Elt F) cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opA m ρ c
    | ⟨1, _⟩ => opB m ρ c
    | ⟨2, _⟩ => outAt (opA m ρ) (opB m ρ) c
  Φ t := match t with
    | ⟨0, _⟩ => phi0 m ρ c
    | ⟨_ + 1, _⟩ => phi1 c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c` at contents `X`. -/
def stagedAt (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stagedAt_eq (c : Dev nD) (b : Ref sig .tc) (X : b.ty.Contents (Elt F)) :
    stagedAt c b X = held c (Memref.whole b) (Memref.whole b).view.set X := by
  unfold stagedAt
  refine Entails.antisymm ?_ ?_
  · show (_ : sProp 𝕄) ⊢ _
    iintro ⟨%f, %hf, H⟩
    subst hf
    iapply (Entails.of_eq (held_whole c b f)); iexact H
  · show (_ : sProp 𝕄) ⊢ _
    iintro H
    iexists X
    isplitr; · ipureintro; rfl
    iapply (Entails.of_eq (held_whole c b X).symm); iexact H

def stagedIn (c : Dev nD) : sProp 𝕄 :=
  iprop(phi0 m ρ c ∗ (dats m ρ 0 c).owesAt () t0_0.castSucc
    ∗ (∃ d, stagedAt c cc0_stg0_0 ((dats m ρ 0 c).before (0 : Fin 3) t0_0 d))
    ∗ (∃ d, stagedAt c cc0_stg1_0 ((dats m ρ 0 c).before (1 : Fin 3) t0_0 d))
    ∗ (∃ d, stagedAt c cc0_stg2_0 ((dats m ρ 0 c).before (2 : Fin 3) t0_0 d)))

def stagedOut (c : Dev nD) : sProp 𝕄 :=
  iprop(phi1 c ∗ (dats m ρ 0 c).owesAt () t0_0.succ
    ∗ stagedAt c cc0_stg0_0 (opA m ρ c) ∗ stagedAt c cc0_stg1_0 (opB m ρ c) ∗ stagedAt c cc0_stg2_0 (outAt (opA m ρ) (opB m ρ) c))

theorem before_0 (c : Dev nD) (d) : (dats m ρ 0 c).before (0 : Fin 3) t0_0 d = opA m ρ c := by
  unfold Dat.before; rw [if_pos (fetch0_0 t0_0)]; rfl
theorem before_1 (c : Dev nD) (d) : (dats m ρ 0 c).before (1 : Fin 3) t0_0 d = opB m ρ c := by
  unfold Dat.before; rw [if_pos (fetch0_1 t0_0)]; rfl

set_option maxHeartbeats 2000000 in
set_option maxRecDepth 8000 in
/-- The launch's one body, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show stagedIn m ρ c ⊢ wp frame (wpE (defs₀ (F := F)) 𝒱₀ (c : Thread nD τ) none) Set.univ
    (cc0_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch9 cc0_scratch10 cc0_scratch11 cc0_scratch12 cc0_scratch13 cc0_scratch14) (fun _ => stagedOut m ρ c)
  unfold stagedIn phi0
  simp only [before_0, before_1, stagedAt_eq]
  unfold Dat.owesAt Pipeline.owesWithin
  iintro ⟨⟨Hs, Hr⟩, ⟨%W, %hW, HO⟩, ⟨%d0, HA⟩, ⟨%d1, HB⟩, %d2, HZ⟩
  ihave H := (enter (opA m ρ) (opB m ρ) c ((dats m ρ 0 c).before (2 : Fin 3) t0_0 d2)) $$ [Hs Hr HO HA HB HZ]
  · isplitl [Hs]; · iexact Hs
    isplitl [Hr]; · iexact Hr
    isplitl [HO]
    · unfold Owe; iexists W; iexact HO
    isplitl [HA]; · iexact HA
    isplitl [HB]; · iexact HB
    iexact HZ
  icases H with ⟨%K, HE, %y, Hin⟩
  iapply (body_run (opA m ρ) (opB m ρ) K c y ((dats m ρ 0 c).before (2 : Fin 3) t0_0 d2) fun _ => stagedOut m ρ c)
  isplitl [HE]; · iexact HE
  isplitl [Hin]; · iexact Hin
  iintro Hout
  ihave Hout := (leave (opA m ρ) (opB m ρ) c _) $$ Hout
  icases Hout with ⟨Hphi, HO, HA, HB, HZ⟩
  unfold stagedOut phi1 Dat.owesAt Pipeline.owesWithin
  simp only [stagedAt_eq]
  rw [show (dats m ρ 0 c).owed t0_0.succ = 0 from rfl]
  isplitl [Hphi]; · iexact Hphi
  isplitl [HO]
  · unfold Owe
    icases HO with ⟨%W', HO⟩
    iexists W'
    isplitr; · ipureintro; exact fun _ _ => Or.inl trivial
    iexact HO
  isplitl [HA]; · iexact HA
  isplitl [HB]; · iexact HB
  iexact HZ

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (opA m ρ) (opB m ρ) c)
      ⊢ |={Set.univ}=> iprop(start (opA m ρ) (opB m ρ) c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start (opA m ρ) (opB m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 m ρ c from rfl]
  unfold phi0
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = phi1 c from rfl]
  exact Entails.of_eq rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array's contents after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution ends, in a state with every array at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (opA m ρ) (opB m ρ)) (G' := G' (opA m ρ) (opB m ρ)) (u₀ := u₀)
    (hu₀ := by
      unfold u₀
      iintro Hu
      ihave H := (ownU_pair _ _) $$ Hu
      icases H with ⟨HP, HX⟩
      imod (fund_cube (opA m ρ) (opB m ρ)) $$ HX with HG
      imodintro
      isplitl [HP] <;> iassumption)
    (hglob := glob (opA m ρ) (opB m ρ))
    (hA := fun _ _ => rfl) (hpf := fun _ k => k.elim0)
    (X := start (opA m ρ) (opB m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were. -/
theorem finalA_0 (c : Dev nD) : finalA m ρ c (0 : Fin 3) = (s₀ m ρ).mem (win0_0.arr.view.loc (c : Thread nD τ)) :=
  (dats (F := F) m ρ 0 c).arrAt_in (0 : Fin 3) rfl _
theorem finalA_1 (c : Dev nD) : finalA m ρ c (1 : Fin 3) = (s₀ m ρ).mem (win0_1.arr.view.loc (c : Thread nD τ)) :=
  (dats (F := F) m ρ 0 c).arrAt_in (1 : Fin 3) rfl _

end Cert.Cube

end
-- ==== Proof.Frames.lean ====
/-
# The frames

All three programs run to the end, leave their arguments as they were and every semaphore counter at zero. The kernel's run is taken from
`Run.lean`, at the machine's floats and at exact ones; the reference's from its generated run.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Cube

open Idealize.ShloMosaic Idealize.ShloMosaic.TcCoe Idealize.SL.Sem

variable {F : FTy → Type} [FloatOps F]

/-- The kernel's run, read at its arguments. -/
theorem run_args (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
        ∧ r.2.sem = fun _ => 0) :=
  (θ_run (Cert.KernelIdeal.defs (F := F)) _ _).mono
    (fun _ h => ⟨fun c => ⟨(h.1 c (0 : Fin 3)).trans (finalA_0 m ρ c), (h.1 c (1 : Fin 3)).trans (finalA_1 m ρ c)⟩, h.2⟩) (run_main m ρ)

attribute [local instance] Cert.Kernel.Gen.facts Cert.KernelIdeal.Gen.facts

/-- The kernel and its reading at exact floats are one program: their body tables agree. -/
theorem bodies_eq : (Cert.Kernel.defs₀ (F := F)) = Cert.KernelIdeal.defs₀ (F := F) := by
  unfold Cert.Kernel.defs₀ Cert.KernelIdeal.defs₀
  refine congrArg Defs.onTc ?_
  funext ℓ x
  match ℓ, x with
  | 0, (t, s) => rfl
  | ⟨_ + 1, h⟩, _ => exact absurd h (Nat.not_lt.2 (Nat.le_add_left _ _))

theorem defs_eq : (Cert.Kernel.defs (F := F)) = Cert.KernelIdeal.defs (F := F) :=
  congrArg (Pipeline.defs (Cert.KernelIdeal.pcfgs (F := F))) bodies_eq

theorem frame_kernel : Cert.quiescent_Kernel (hKernel := Cert.Kernel.Gen.facts) := fun m ρ _ => by
  rw [defs_eq]
  exact run_args (F := Bits) m ρ

theorem frame_ideal : Cert.quiescent_KernelIdeal (hKernelIdeal := Cert.KernelIdeal.Gen.facts) := fun m ρ _ => run_args (F := Ideal) m ρ

theorem frame_reference : Cert.quiescent_ReferenceIdeal (hReferenceIdeal := Cert.ReferenceIdeal.Gen.facts) := fun m ρ _ =>
  (θ_run (Cert.ReferenceIdeal.defs (F := Ideal)) _ _).mono (fun _ h => ⟨fun c => (h c).2, sem_eq_zero_of_no_sems (by decide) _⟩) (Cert.ReferenceIdeal.Value.run m ρ)

end Cert.Cube

end
-- ==== Proof.Columns.lean ====
/-
# Blocks of columns, read as extended reals

At the ideal instance an element is an extended real, a rounding changes nothing, and a sum is a sum. Every buffer of the kernel holds a block of
columns of a table of 256 rows and 2048 columns, either as a matrix (`Flat`) or with a leading axis of length one (`Slab`). This file carries
that fact through the loads, the stores, the products and the additions.
-/
module

public import proofs.«01_k».proof.Proof.Facts
public import Idealize.ShloMosaic.Lib.MatmulPlain
public import Idealize.ShloMosaic.Lib.ValueIdx
public import Idealize.ShloMosaic.Lib.ValueLayout

@[expose] public section

noncomputable section

namespace Cert.Cube

open Cert.KernelIdeal Cert.KernelIdeal.Gen
open Idealize.ShloMosaic hiding ix2 ix3
open Idealize.ShloMosaic.VecWindow Idealize.ShloMosaic.ValueIdx
open scoped BigOperators

/-- A table of extended reals as wide as the result. -/
abbrev Table : Type := Fin 256 → Fin 2048 → EReal

/-- The matrix `w` is the table's columns from `lo` on. -/
def Flat {n : ℕ} (lo : ℕ) (G : Table) (w : (⟨2, ![256, n]⟩ : Shape).Idx → EReal) : Prop :=
  ∀ (i : Fin 256) (j : Fin n) (h : lo + j.val < 2048), w (ix2 i j) = G i ⟨lo + j.val, h⟩

/-- The same with a leading axis of length one. -/
def Slab {n : ℕ} (lo : ℕ) (G : Table) (w : (⟨3, ![1, 256, n]⟩ : Shape).Idx → EReal) : Prop :=
  ∀ (i : Fin 256) (j : Fin n) (h : lo + j.val < 2048), w (ix3 (0 : Fin 1) i j) = G i ⟨lo + j.val, h⟩

/-! ## Casts and additions -/

theorem Slab.flat {n lo : ℕ} {G : Table} {w : (⟨3, ![1, 256, n]⟩ : Shape).Idx → EReal} (hw : Slab lo G w)
    (h : (⟨3, ![1, 256, n]⟩ : Shape).ShapeCasts ⟨2, ![256, n]⟩) : Flat lo G (shapeCast ⟨2, ![256, n]⟩ w h) := fun i j hj => by
  rw [shapeCast_1ab_ab_apply]
  exact hw i j hj

theorem Flat.slab {n lo : ℕ} {G : Table} {w : (⟨2, ![256, n]⟩ : Shape).Idx → EReal} (hw : Flat lo G w)
    (h : (⟨2, ![256, n]⟩ : Shape).ShapeCasts ⟨3, ![1, 256, n]⟩) : Slab lo G (shapeCast ⟨3, ![1, 256, n]⟩ w h) := fun i j hj => by
  rw [shapeCast_ab_1ab_apply]
  exact hw i j hj

theorem Flat.add {n lo : ℕ} {φ : FTy} {G H : Table} {w v : FVec Ideal ⟨2, ![256, n]⟩ φ} (hw : Flat lo G w) (hv : Flat lo H v) :
    Flat lo (G + H) (addf w v) := fun i j hj => congrArg₂ (· + ·) (hw i j hj) (hv i j hj)

/-! ## Products -/

variable (A : Dev nD → Vec Ideal S2048x1024 .bf16) (B : Dev nD → Vec Ideal S1024x2048 .bf16)

/-- Device `e`'s share of row block `r` of the product. -/
def part (e r : Dev nD) : Table := fun i j =>
  ∑ k : Fin 1024, (A e (ix2 (⟨256 * r.val + i.val, by have := r.isLt; have : nD = 8 := rfl; omega⟩ : Fin 2048) k) : EReal) * B e (ix2 k j)

/-- The product of a row block by a block of columns. -/
theorem flat_product {n lo : ℕ} (e r : Dev nD) (off : Fin 2 → ℕ) (inb : ∀ a, off a + S256x1024.size a ≤ S2048x1024.size a) (hoff : off = ![256 * r.val, 0])
    (inb' : ∀ a, (![0, lo] : Fin 2 → ℕ) a + (![1024, n] : Fin 2 → ℕ) a ≤ S1024x2048.size a) (hc : S256x1024.ShapeCasts S256x1024) :
    Flat (n := n) lo (part A B e r) (matmul (F := Ideal) (φ₁ := .bf16) (φ₂ := .bf16) (DotDims.plain 256 1024 n) none (shapeCast S256x1024 (window (A e) off S256x1024.size inb) hc)
      (window (B e) ![0, lo] ![1024, n] inb') (constant ⟨2, ![256, n]⟩ .f32 0x00000000#32)) := fun i j hj => by
  subst hoff
  unfold matmul
  rw [show shapeCast S256x1024 (VecWindow.window (A e) ![256 * r.val, 0] S256x1024.size inb) hc = _ from shapeCast_id (s := S256x1024) _ hc, Ideal.matmul_plain_apply, constant_apply, Ideal.ofBits_zero_f32, zero_add]
  refine Finset.sum_congr rfl fun k _ => congrArg₂ (· * ·) (congrArg (A e) ?_) (congrArg (B e) ?_)
  all_goals
    funext a
    apply Fin.ext
    match a with
    | ⟨0, _⟩ => first | exact congrArg (256 * r.val + ·) (Nat.one_mul _) | exact (Nat.zero_add _).trans (Nat.one_mul _)
    | ⟨1, _⟩ => first | exact congrArg (lo + ·) (Nat.one_mul _) | exact (Nat.zero_add _).trans (Nat.one_mul _)

/-! ## Loads from what a store left -/

/-- Inside the box just stored, a vector is the payload. -/
theorem put_at {s : Shape} {α : Type} (z : s.Idx → α) (off size : Fin s.rank → ℕ) (w : ((a : Fin s.rank) → Fin (size a)) → α) (y : s.Idx)
    (x : (a : Fin s.rank) → Fin (size a)) (h : ∀ a, (y a).val = off a + (x a).val) : put z off size w y = w x := by
  show dite _ _ _ = _
  rw [dif_pos (fun a => by have := h a; have := (x a).isLt; omega)]
  exact congrArg w (funext fun a => Fin.ext (by show (y a).val - off a = _; have := h a; omega))

/-- A block of columns loaded from inside the one just stored. -/
theorem Flat.window {n lo : ℕ} {G : Table} {w : (⟨2, ![256, n]⟩ : Shape).Idx → EReal} (hw : Flat lo G w) (z : S256x2048.Idx → EReal)
    {n' lo' : ℕ} (inb : ∀ a, (![0, lo'] : Fin 2 → ℕ) a + (![256, n'] : Fin 2 → ℕ) a ≤ S256x2048.size a) (hlo : lo ≤ lo' := by omega) (hn : lo' + n' ≤ lo + n := by omega) :
    Flat (n := n') lo' G (window (put z ![0, lo] ![256, n] w) ![0, lo'] ![256, n'] inb) := fun i j hj => by
  have e : lo + (lo' - lo + j.val) = lo' + j.val := by omega
  refine (put_at (s := S256x2048) z ![0, lo] ![256, n] w _ (ix2 i (⟨lo' - lo + j.val, by omega⟩ : Fin n)) fun a => ?_).trans ?_
  · match a with
    | ⟨0, _⟩ => exact congrArg (0 + ·) (Nat.one_mul _)
    | ⟨1, _⟩ => exact (congrArg (lo' + ·) (Nat.one_mul _)).trans e.symm
  · rw [hw i _ (by show lo + (lo' - lo + j.val) < _; omega)]
    exact congrArg (G i) (Fin.ext e)

/-- The same in a buffer of three rows of tables. -/
theorem Slab.window {n lo : ℕ} {G : Table} {w : (⟨3, ![1, 256, n]⟩ : Shape).Idx → EReal} (hw : Slab lo G w) (z : S3x256x2048.Idx → EReal)
    {n' lo' q : ℕ} (inb : ∀ a, (![q, 0, lo'] : Fin 3 → ℕ) a + (![1, 256, n'] : Fin 3 → ℕ) a ≤ S3x256x2048.size a) (hlo : lo ≤ lo' := by omega) (hn : lo' + n' ≤ lo + n := by omega) :
    Slab (n := n') lo' G (window (put z ![q, 0, lo] ![1, 256, n] w) ![q, 0, lo'] ![1, 256, n'] inb) := fun i j hj => by
  have e : lo + (lo' - lo + j.val) = lo' + j.val := by omega
  refine (put_at (s := S3x256x2048) z ![q, 0, lo] ![1, 256, n] w _ (ix3 (0 : Fin 1) i (⟨lo' - lo + j.val, by omega⟩ : Fin n)) fun a => ?_).trans ?_
  · match a with
    | ⟨0, _⟩ => exact congrArg (q + ·) (Nat.one_mul _)
    | ⟨1, _⟩ => exact congrArg (0 + ·) (Nat.one_mul _)
    | ⟨2, _⟩ => exact (congrArg (lo' + ·) (Nat.one_mul _)).trans e.symm
  · rw [hw i _ (by show lo + (lo' - lo + j.val) < _; omega)]
    exact congrArg (G i) (Fin.ext e)

/-- A table with other columns up to `m`. -/
def Table.upTo (m : ℕ) (G H : Table) : Table := fun i j => if j.val < m then G i j else H i j

/-- The first columns of a block stored over: what was stored there, and behind it what the block held before. -/
theorem Slab.over {n m lo : ℕ} {G H : Table} {w : (⟨3, ![1, 256, m]⟩ : Shape).Idx → EReal} (hw : Slab lo G w) {v : (⟨3, ![1, 256, n]⟩ : Shape).Idx → EReal}
    (hv : Slab lo H v) (z : S3x256x2048.Idx → EReal) {q : ℕ} (inb : ∀ a, (![q, 0, lo] : Fin 3 → ℕ) a + (![1, 256, n] : Fin 3 → ℕ) a ≤ S3x256x2048.size a) :
    Slab (n := n) lo (Table.upTo (lo + m) G H) (VecWindow.window (put (put z ![q, 0, lo] ![1, 256, n] v) ![q, 0, lo] ![1, 256, m] w) ![q, 0, lo] ![1, 256, n] inb) :=
  fun i j hj => by
  by_cases hm : j.val < m
  · refine (put_at (s := S3x256x2048) _ ![q, 0, lo] ![1, 256, m] w _ (ix3 (0 : Fin 1) i (⟨j.val, hm⟩ : Fin m)) fun a => ?_).trans ?_
    · match a with
      | ⟨0, _⟩ => exact congrArg (q + ·) (Nat.one_mul _)
      | ⟨1, _⟩ => exact congrArg (0 + ·) (Nat.one_mul _)
      | ⟨2, _⟩ => exact congrArg (lo + ·) (Nat.one_mul _)
    · rw [hw i _ hj]
      exact (if_pos (Nat.add_lt_add_left hm lo)).symm
  · refine (put_out (s := S3x256x2048) _ ![q, 0, lo] ![1, 256, m] w _ fun hh => hm ?_).trans ?_
    · have h2 : lo + 1 * j.val < lo + m := (hh 2).2
      omega
    · refine (hv.window z inb (le_refl _) (le_refl _) i j hj).trans ?_
      exact (if_neg (by show ¬ lo + j.val < lo + m; omega)).symm

end Cert.Cube

end
-- ==== Proof.Sums.lean ====
/-
# What every copy carries

Over the extended reals every copy carries, in its block of columns, a sum of devices' shares of one row block of the product: the share of the
device that sends it, and what that device received for the same row block in an earlier phase.
-/
module

public import proofs.«01_k».proof.Proof.Columns

@[expose] public section

noncomputable section

namespace Cert.Cube

open Cert.KernelIdeal Cert.KernelIdeal.Gen
open Idealize.ShloMosaic hiding ix2 ix3
open Idealize.ShloMosaic.VecWindow Idealize.ShloMosaic.ValueIdx
open scoped BigOperators

/-! ## Which rows the kernel's loads take -/

theorem rows1 : ∀ c : Dev nD, k0_off1 c = ![256 * (peer 0 (peer 1 (peer 2 c))).val, 0] := by decide +kernel
theorem rows2 : ∀ c : Dev nD, k0_off2 c = ![256 * (peer 0 (peer 1 c)).val, 0] := by decide +kernel
theorem rows3 : ∀ c : Dev nD, k0_off3 c = ![256 * (peer 1 (peer 2 c)).val, 0] := by decide +kernel
theorem rows4 : ∀ c : Dev nD, k0_off4 c = ![256 * (peer 2 (peer 0 c)).val, 0] := by decide +kernel
theorem rows5 : ∀ c : Dev nD, k0_off5 c = ![256 * (peer 2 c).val, 0] := by decide +kernel
theorem rows6 : ∀ c : Dev nD, k0_off6 c = ![256 * (peer 0 c).val, 0] := by decide +kernel
theorem rows7 : ∀ c : Dev nD, k0_off7 c = ![256 * (peer 1 c).val, 0] := by decide +kernel
theorem rows8 : ∀ c : Dev nD, k0_off8 c = ![256 * c.val, 0] := by decide +kernel

variable (A : Dev nD → Vec Ideal S2048x1024 .bf16) (B : Dev nD → Vec Ideal S1024x2048 .bf16)

/-- Unknown contents, of a table and of three tables. -/
abbrev J2 : S256x2048.Idx → EReal := junk (F := Ideal) (e := .bf16)
abbrev J3 : S3x256x2048.Idx → EReal := junk (F := Ideal) (e := .bf16)

/-! ## First phase -/

/-- Sent in the first phase: the product for the rows of the opposite corner. -/
abbrev T1 (c : Dev nD) : Table := part A B c (peer 0 (peer 1 (peer 2 c)))

theorem flat_w0 (c : Dev nD) : Flat 0 (T1 A B c) (w0 A B c) := by
  have h := flat_product (lo := 0) A B c _ (k0_off1 c) (k0_off1_inb c) (rows1 c) inb_S1024x2048_S1024x768_0_0 shapeCasts_S256x1024_S256x1024
  unfold w0 k0_pay2
  simp only
  rw [shapeCast_id]
  exact h
theorem flat_w1 (c : Dev nD) : Flat 768 (T1 A B c) (w1 A B c) := by
  have h := flat_product (lo := 768) A B c _ (k0_off1 c) (k0_off1_inb c) (rows1 c) inb_S1024x2048_S1024x768_0_768 shapeCasts_S256x1024_S256x1024
  unfold w1 k0_pay4
  simp only
  rw [shapeCast_id]
  exact h
theorem flat_w2 (c : Dev nD) : Flat 1536 (T1 A B c) (w2 A B c) := by
  have h := flat_product (lo := 1536) A B c _ (k0_off1 c) (k0_off1_inb c) (rows1 c) inb_S1024x2048_S1024x512_0_1536 shapeCasts_S256x1024_S256x1024
  unfold w2 k0_pay6
  simp only
  rw [shapeCast_id]
  exact h

/-! ## Second phase -/

/-- The products for the rows of the corners two links away. -/
abbrev T01 (c : Dev nD) : Table := part A B c (peer 0 (peer 1 c))
abbrev T12 (c : Dev nD) : Table := part A B c (peer 1 (peer 2 c))
abbrev T20 (c : Dev nD) : Table := part A B c (peer 2 (peer 0 c))

theorem slab_w3 (c : Dev nD) : Slab 0 (T01 A B c) (w3 A B c) :=
  (flat_product (lo := 0) A B c _ (k0_off2 c) (k0_off2_inb c) (rows2 c) inb_S1024x2048_S1024x1536_0_0 shapeCasts_S256x1024_S256x1024).slab
    shapeCasts_S256x1536_S1x256x1536
theorem slab_w4 (c : Dev nD) : Slab 1536 (T01 A B c + T1 A B (peer 2 c)) (w4 A B c) :=
  ((((flat_product (lo := 1536) A B c _ (k0_off2 c) (k0_off2_inb c) (rows2 c) inb_S1024x2048_S1024x512_0_1536 shapeCasts_S256x1024_S256x1024).slab
    shapeCasts_S256x512_S1x256x512).flat shapeCasts_S1x256x512_S256x512).add (φ := .bf16) ((flat_w2 A B (peer 2 c)).window J2 inb_S256x2048_S256x512_0_1536)).slab
    shapeCasts_S256x512_S1x256x512
theorem slab_w5 (c : Dev nD) : Slab 768 (T12 A B c) (w5 A B c) :=
  (flat_product (lo := 768) A B c _ (k0_off3 c) (k0_off3_inb c) (rows3 c) inb_S1024x2048_S1024x1280_0_768 shapeCasts_S256x1024_S256x1024).slab
    shapeCasts_S256x1280_S1x256x1280
theorem slab_w6 (c : Dev nD) : Slab 0 (T12 A B c + T1 A B (peer 0 c)) (w6 A B c) :=
  ((((flat_product (lo := 0) A B c _ (k0_off3 c) (k0_off3_inb c) (rows3 c) inb_S1024x2048_S1024x768_0_0 shapeCasts_S256x1024_S256x1024).slab
    shapeCasts_S256x768_S1x256x768).flat shapeCasts_S1x256x768_S256x768).add (φ := .bf16) ((flat_w0 A B (peer 0 c)).window J2 inb_S256x2048_S256x768_0_0)).slab
    shapeCasts_S256x768_S1x256x768
theorem slab_w7 (c : Dev nD) : Slab 0 (T20 A B c) (w7 A B c) :=
  (flat_product (lo := 0) A B c _ (k0_off4 c) (k0_off4_inb c) (rows4 c) inb_S1024x2048_S1024x768_0_0 shapeCasts_S256x1024_S256x1024).slab
    shapeCasts_S256x768_S1x256x768
theorem slab_w8' (c : Dev nD) : Slab 768 (T20 A B c) (w8' A B c) :=
  (flat_product (lo := 768) A B c _ (k0_off4 c) (k0_off4_inb c) (rows4 c) inb_S1024x2048_S1024x1280_0_768 shapeCasts_S256x1024_S256x1024).slab
    shapeCasts_S256x1280_S1x256x1280
theorem slab_w8 (c : Dev nD) : Slab 768 (T20 A B c + T1 A B (peer 1 c)) (w8 A B c) :=
  ((((slab_w8' A B c).window J3 inb_S3x256x2048_S1x256x768_2_0_768).flat shapeCasts_S1x256x768_S256x768).add (φ := .bf16)
    ((flat_w1 A B (peer 1 c)).window J2 inb_S256x2048_S256x768_0_768)).slab shapeCasts_S256x768_S1x256x768

/-- Copy 8 as it is read: the columns from 768 on, of which the first 768 have the first phase added. -/
theorem slab_x8 (c : Dev nD) : Slab 768 (Table.upTo (768 + 768) (T20 A B c + T1 A B (peer 1 c)) (T20 A B c))
    (window (x8 A B c) ![2, 0, 768] S1x256x1280.size inb_S3x256x2048_S1x256x1280_2_0_768) :=
  (slab_w8 A B c).over (slab_w8' A B c) J3 inb_S3x256x2048_S1x256x1280_2_0_768

/-! ## Third phase -/

/-- The products for the rows of the direct neighbours. -/
abbrev T (l : Fin 3) (c : Dev nD) : Table := part A B c (peer l c)

/-- A product by the whole of `B`. -/
theorem flat_whole (e r : Dev nD) (off : Fin 2 → ℕ) (inb : ∀ a, off a + S256x1024.size a ≤ S2048x1024.size a) (hoff : off = ![256 * r.val, 0]) :
    Flat 0 (part A B e r) (k0_pay28 (F := Ideal) (window (A e) off S256x1024.size inb) (B e)) := by
  have h := flat_product (n := 2048) (lo := 0) A B e r off inb hoff (by intro a; fin_cases a <;> decide) shapeCasts_S256x1024_S256x1024
  rwa [show window (B e) ![0, 0] ![1024, 2048] _ = B e from funext fun y => congrArg (B e) (funext fun a => Fin.ext (by
    match a with
    | ⟨0, _⟩ => exact (Nat.zero_add _).trans (Nat.one_mul _)
    | ⟨1, _⟩ => exact (Nat.zero_add _).trans (Nat.one_mul _)))] at h

theorem flat_own (c : Dev nD) : Flat 0 (part A B c c) (own A B c) := flat_whole A B c c _ _ (rows8 c)

/-- The three rows of products, before anything is added. -/
abbrev v0 (c : Dev nD) : FVec Ideal S1x256x2048 .bf16 := k0_pay19 (k0_pay18 (a6 A c) (B c))
abbrev v1 (c : Dev nD) : FVec Ideal S1x256x2048 .bf16 := k0_pay20 (a7 A c) (B c)
abbrev v2 (c : Dev nD) : FVec Ideal S1x256x2048 .bf16 := k0_pay17 (a5 A c) (B c)

theorem slab_v0 (c : Dev nD) : Slab 0 (T A B 0 c) (v0 A B c) := (flat_whole A B c _ _ _ (rows6 c)).slab shapeCasts_S256x2048_S1x256x2048
theorem slab_v1 (c : Dev nD) : Slab 0 (T A B 1 c) (v1 A B c) := (flat_whole A B c _ _ _ (rows7 c)).slab shapeCasts_S256x2048_S1x256x2048
theorem slab_v2 (c : Dev nD) : Slab 0 (T A B 2 c) (v2 A B c) := (flat_whole A B c _ _ _ (rows5 c)).slab shapeCasts_S256x2048_S1x256x2048

/-- A block of columns of one of the three rows with a received block of the same columns added. -/
theorem Slab.plus {n lo : ℕ} {G H : Table} {w v : FVec Ideal ⟨3, ![1, 256, n]⟩ .bf16} (hw : Slab lo G w) (hv : Slab lo H v)
    (h : (⟨3, ![1, 256, n]⟩ : Shape).ShapeCasts ⟨2, ![256, n]⟩) (h' : (⟨2, ![256, n]⟩ : Shape).ShapeCasts ⟨3, ![1, 256, n]⟩) :
    Slab lo (G + H) (shapeCast ⟨3, ![1, 256, n]⟩ (addf (φ := .bf16) (shapeCast ⟨2, ![256, n]⟩ w h) (shapeCast ⟨2, ![256, n]⟩ v h)) h') :=
  ((hw.flat h).add (hv.flat h)).slab h'

theorem slab_w9 (c : Dev nD) : Slab 0 (T A B 0 c + T20 A B (peer 2 c)) (w9 A B c) :=
  ((slab_v0 A B c).window J3 inb_S3x256x2048_S1x256x768_0_0_0).plus ((slab_w7 A B (peer 2 c)).window J3 inb_S3x256x2048_S1x256x768_2_0_0)
    shapeCasts_S1x256x768_S256x768 shapeCasts_S256x768_S1x256x768
theorem slab_w10 (c : Dev nD) : Slab 768 (T A B 0 c + Table.upTo (768 + 768) (T20 A B (peer 2 c) + T1 A B (peer 1 (peer 2 c))) (T20 A B (peer 2 c))) (w10 A B c) :=
  ((slab_v0 A B c).window J3 inb_S3x256x2048_S1x256x1280_0_0_768).plus (slab_x8 A B (peer 2 c)) shapeCasts_S1x256x1280_S256x1280 shapeCasts_S256x1280_S1x256x1280
theorem slab_w11 (c : Dev nD) : Slab 0 (T A B 1 c + T01 A B (peer 0 c)) (w11 A B c) :=
  ((slab_v1 A B c).window J3 inb_S3x256x2048_S1x256x1536_1_0_0).plus ((slab_w3 A B (peer 0 c)).window J3 inb_S3x256x2048_S1x256x1536_0_0_0)
    shapeCasts_S1x256x1536_S256x1536 shapeCasts_S256x1536_S1x256x1536
theorem slab_w12 (c : Dev nD) : Slab 1536 (T A B 1 c + (T01 A B (peer 0 c) + T1 A B (peer 2 (peer 0 c)))) (w12 A B c) :=
  ((slab_v1 A B c).window J3 inb_S3x256x2048_S1x256x512_1_0_1536).plus ((slab_w4 A B (peer 0 c)).window J3 inb_S3x256x2048_S1x256x512_0_0_1536)
    shapeCasts_S1x256x512_S256x512 shapeCasts_S256x512_S1x256x512
theorem slab_w13 (c : Dev nD) : Slab 768 (T A B 2 c + T12 A B (peer 1 c)) (w13 A B c) :=
  ((slab_v2 A B c).window J3 inb_S3x256x2048_S1x256x1280_2_0_768).plus ((slab_w5 A B (peer 1 c)).window J3 inb_S3x256x2048_S1x256x1280_1_0_768)
    shapeCasts_S1x256x1280_S256x1280 shapeCasts_S256x1280_S1x256x1280
theorem slab_w14 (c : Dev nD) : Slab 0 (T A B 2 c + (T12 A B (peer 1 c) + T1 A B (peer 0 (peer 1 c)))) (w14 A B c) :=
  ((slab_v2 A B c).window J3 inb_S3x256x2048_S1x256x768_2_0_0).plus ((slab_w6 A B (peer 1 c)).window J3 inb_S3x256x2048_S1x256x768_1_0_0)
    shapeCasts_S1x256x768_S256x768 shapeCasts_S256x768_S1x256x768

/-! ## The three pieces of the result -/

/-- A block of columns of the device's own product with the three blocks it received added, one per link. -/
theorem Flat.gather {n lo : ℕ} {G G0 G1 G2 : Table} {w : FVec Ideal S256x2048 .f32} (hw : Flat 0 G w) {u0 u1 u2 : FVec Ideal ⟨3, ![1, 256, n]⟩ .bf16}
    (h0 : Slab lo G0 u0) (h1 : Slab lo G1 u1) (h2 : Slab lo G2 u2) (hs : S256x2048.Slices ![0, lo] ⟨2, ![256, n]⟩)
    (h : (⟨3, ![1, 256, n]⟩ : Shape).ShapeCasts ⟨2, ![256, n]⟩) (hb : FTy.bf16.bits < FTy.f32.bits) :
    Flat lo (G + G0 + G1 + G2) (addf (φ := .f32) (addf (φ := .f32) (addf (φ := .f32) (extractStridedSlice ⟨2, ![256, n]⟩ ![0, lo] w hs)
      (extf .f32 (shapeCast ⟨2, ![256, n]⟩ u0 h) hb)) (extf .f32 (shapeCast ⟨2, ![256, n]⟩ u1 h) hb)) (extf .f32 (shapeCast ⟨2, ![256, n]⟩ u2 h) hb)) := by
  have hc : Flat lo G (extractStridedSlice ⟨2, ![256, n]⟩ ![0, lo] w hs) := fun i j hj =>
    (slice2_axis1_apply lo w hs i j (⟨lo + j.val, hj⟩ : Fin 2048) rfl).trans
      ((hw i (⟨lo + j.val, hj⟩ : Fin 2048) (lt_of_eq_of_lt (Nat.zero_add _) hj)).trans (congrArg (G i) (Fin.ext (Nat.zero_add _))))
  exact ((hc.add (h0.flat h)).add (h1.flat h)).add (h2.flat h)

theorem flat_o0 (c : Dev nD) : Flat 0 (part A B c c
      + (T A B 2 (peer 2 c) + (T12 A B (peer 1 (peer 2 c)) + T1 A B (peer 0 (peer 1 (peer 2 c)))))
      + (T A B 0 (peer 0 c) + T20 A B (peer 2 (peer 0 c)))
      + (T A B 1 (peer 1 c) + T01 A B (peer 0 (peer 1 c)))) (o0 A B c) :=
  (flat_own A B c).gather ((slab_w14 A B (peer 2 c)).window J3 inb_S3x256x2048_S1x256x768_2_0_0) ((slab_w9 A B (peer 0 c)).window J3 inb_S3x256x2048_S1x256x768_0_0_0)
    ((slab_w11 A B (peer 1 c)).window J3 inb_S3x256x2048_S1x256x768_1_0_0) slices_S256x2048_o0_0_S256x768 shapeCasts_S1x256x768_S256x768 bitsLt_bf16_f32
theorem flat_o1 (c : Dev nD) : Flat 768 (part A B c c
      + (T A B 2 (peer 2 c) + T12 A B (peer 1 (peer 2 c)))
      + (T A B 0 (peer 0 c) + Table.upTo (768 + 768) (T20 A B (peer 2 (peer 0 c)) + T1 A B (peer 1 (peer 2 (peer 0 c)))) (T20 A B (peer 2 (peer 0 c))))
      + (T A B 1 (peer 1 c) + T01 A B (peer 0 (peer 1 c)))) (o1 A B c) :=
  (flat_own A B c).gather ((slab_w13 A B (peer 2 c)).window J3 inb_S3x256x2048_S1x256x768_2_0_768) ((slab_w10 A B (peer 0 c)).window J3 inb_S3x256x2048_S1x256x768_0_0_768)
    ((slab_w11 A B (peer 1 c)).window J3 inb_S3x256x2048_S1x256x768_1_0_768) slices_S256x2048_o0_768_S256x768 shapeCasts_S1x256x768_S256x768 bitsLt_bf16_f32
theorem flat_o2 (c : Dev nD) : Flat 1536 (part A B c c
      + (T A B 2 (peer 2 c) + T12 A B (peer 1 (peer 2 c)))
      + (T A B 0 (peer 0 c) + Table.upTo (768 + 768) (T20 A B (peer 2 (peer 0 c)) + T1 A B (peer 1 (peer 2 (peer 0 c)))) (T20 A B (peer 2 (peer 0 c))))
      + (T A B 1 (peer 1 c) + (T01 A B (peer 0 (peer 1 c)) + T1 A B (peer 2 (peer 0 (peer 1 c)))))) (o2 A B c) :=
  (flat_own A B c).gather ((slab_w13 A B (peer 2 c)).window J3 inb_S3x256x2048_S1x256x512_2_0_1536) ((slab_w10 A B (peer 0 c)).window J3 inb_S3x256x2048_S1x256x512_0_0_1536)
    ((slab_w12 A B (peer 1 c)).window J3 inb_S3x256x2048_S1x256x512_1_0_1536) slices_S256x2048_o0_1536_S256x512 shapeCasts_S1x256x512_S256x512 bitsLt_bf16_f32

end Cert.Cube

end
-- ==== Proof.Value.lean ====
/-
# The result is the sum over the devices

In each of the three column blocks the result adds up the eight devices' shares of the device's own rows, each share once, in an order that
depends on the block. Over the extended reals the order does not matter.
-/
module

public import proofs.«01_k».proof.Proof.Sums

@[expose] public section

noncomputable section

namespace Cert.Cube

open Cert.KernelIdeal Cert.KernelIdeal.Gen
open Idealize.ShloMosaic hiding ix2 ix3
open Idealize.ShloMosaic.VecWindow Idealize.ShloMosaic.ValueIdx
open scoped BigOperators

/-! ## The eight corners of the cube -/

theorem back2 : ∀ c : Dev nD, peer 1 (peer 2 (peer 1 (peer 2 c))) = c ∧ peer 2 (peer 0 (peer 2 (peer 0 c))) = c ∧ peer 0 (peer 1 (peer 0 (peer 1 c))) = c := by
  decide +kernel
theorem back3 : ∀ c : Dev nD, peer 0 (peer 1 (peer 2 (peer 0 (peer 1 (peer 2 c))))) = c ∧ peer 0 (peer 1 (peer 2 (peer 1 (peer 2 (peer 0 c))))) = c
    ∧ peer 0 (peer 1 (peer 2 (peer 2 (peer 0 (peer 1 c))))) = c := by
  decide +kernel
theorem far : ∀ c : Dev nD, peer 1 (peer 2 (peer 0 c)) = peer 0 (peer 1 (peer 2 c)) ∧ peer 2 (peer 0 (peer 1 c)) = peer 0 (peer 1 (peer 2 c)) := by
  decide +kernel

/-- The corners, counted from one of them: itself, its neighbours, the corners two links away, the opposite one. -/
def corner (c : Dev nD) : Fin 8 → Dev nD := ![c, peer 2 c, peer 1 (peer 2 c), peer 0 (peer 1 (peer 2 c)), peer 0 c, peer 2 (peer 0 c), peer 1 c, peer 0 (peer 1 c)]

theorem corner_bijective : ∀ c : Dev nD, Function.Bijective (corner c) := by
  decide +kernel

/-- A sum over the devices is the sum over the corners. -/
theorem sum_corners {M : Type} [AddCommMonoid M] (f : Dev nD → M) (c : Dev nD) :
    ∑ e, f e = f c + f (peer 2 c) + f (peer 1 (peer 2 c)) + f (peer 0 (peer 1 (peer 2 c))) + f (peer 0 c) + f (peer 2 (peer 0 c)) + f (peer 1 c) + f (peer 0 (peer 1 c)) := by
  rw [← (corner_bijective c).sum_comp f]
  exact Fin.sum_univ_eight _

variable (A : Dev nD → Vec Ideal S2048x1024 .bf16) (B : Dev nD → Vec Ideal S1024x2048 .bf16)

/-- All the devices' shares of row block `c`. -/
def total (c : Dev nD) : Table := ∑ e, part A B e c

theorem total_o0 (c : Dev nD) : Flat 0 (total A B c) (o0 A B c) := by
  have h := flat_o0 A B c
  have e : total A B c = _ := sum_corners (fun e => part A B e c) c
  rw [e]
  unfold T T1 T12 T20 T01 at h
  simp only [peer_peer, (back2 c).1, (back2 c).2.1, (back2 c).2.2, (back3 c).1] at h
  convert h using 1
  ac_rfl

theorem total_o1 (c : Dev nD) : Flat 768 (total A B c) (o1 A B c) := by
  intro i j hj
  have h := flat_o1 A B c i j hj
  have e : total A B c = _ := sum_corners (fun e => part A B e c) c
  rw [e]
  unfold T T1 T12 T20 T01 at h
  simp only [peer_peer, (back2 c).1, (back2 c).2.1, (back2 c).2.2, (back3 c).2.1] at h
  refine h.trans ?_
  have hu : ∀ G H : Table, Table.upTo (768 + 768) G H i ⟨768 + j.val, hj⟩ = G i ⟨768 + j.val, hj⟩ := fun G H =>
    if_pos (Nat.add_lt_add_left j.isLt 768)
  simp only [Pi.add_apply, hu, (far c).1]
  ac_rfl

theorem total_o2 (c : Dev nD) : Flat 1536 (total A B c) (o2 A B c) := by
  intro i j hj
  have h := flat_o2 A B c i j hj
  have e : total A B c = _ := sum_corners (fun e => part A B e c) c
  rw [e]
  unfold T T1 T12 T20 T01 at h
  simp only [peer_peer, (back2 c).1, (back2 c).2.1, (back2 c).2.2, (back3 c).2.2] at h
  refine h.trans ?_
  have hu : ∀ G H : Table, Table.upTo (768 + 768) G H i ⟨1536 + j.val, hj⟩ = H i ⟨1536 + j.val, hj⟩ := fun G H =>
    if_neg (Nat.not_lt.mpr (Nat.le_add_right 1536 j.val))
  simp only [Pi.add_apply, hu, (far c).2]
  ac_rfl

/-- Every element of the result is the sum of all the shares. -/
theorem outAt_total (c : Dev nD) (i : Fin 256) (j : Fin 2048) : outAt A B c (ix2 i j) = total A B c i j := by
  have hcol : ∀ (lo : ℕ) (h : lo ≤ j.val), (⟨lo + (j.val - lo), by omega⟩ : Fin 2048) = j := fun lo h => Fin.ext (by show lo + (j.val - lo) = _; omega)
  show put (s := S256x2048) (put (s := S256x2048) (put (s := S256x2048) (junk (F := Ideal) (e := .f32)) ![0, 0] S256x768.size (o0 A B c)) ![0, 768] S256x768.size (o1 A B c)) ![0, 1536] S256x512.size (o2 A B c) (ix2 i j) = _
  by_cases h2 : 1536 ≤ j.val
  · refine (put_at (s := S256x2048) _ ![0, 1536] S256x512.size _ _ (ix2 i (⟨j.val - 1536, by omega⟩ : Fin 512)) fun a => ?_).trans ?_
    · match a with
      | ⟨0, _⟩ => exact (Nat.zero_add _).symm
      | ⟨1, _⟩ => show j.val = 1536 + (j.val - 1536); omega
    · exact (total_o2 A B c i _ (by show 1536 + (j.val - 1536) < _; omega)).trans (congrArg (total A B c i) (hcol 1536 h2))
  refine (put_out (s := S256x2048) _ _ _ _ _ fun h => h2 (h 1).1).trans ?_
  by_cases h1 : 768 ≤ j.val
  · refine (put_at (s := S256x2048) _ ![0, 768] S256x768.size _ _ (ix2 i (⟨j.val - 768, by omega⟩ : Fin 768)) fun a => ?_).trans ?_
    · match a with
      | ⟨0, _⟩ => exact (Nat.zero_add _).symm
      | ⟨1, _⟩ => show j.val = 768 + (j.val - 768); omega
    · exact (total_o1 A B c i _ (by show 768 + (j.val - 768) < _; omega)).trans (congrArg (total A B c i) (hcol 768 h1))
  refine (put_out (s := S256x2048) _ _ _ _ _ fun h => h1 (h 1).1).trans ?_
  refine (put_at (s := S256x2048) _ ![0, 0] S256x768.size _ _ (ix2 i (⟨j.val, by omega⟩ : Fin 768)) fun a => ?_).trans ?_
  · match a with
    | ⟨0, _⟩ => exact (Nat.zero_add _).symm
    | ⟨1, _⟩ => exact (Nat.zero_add _).symm
  · exact (total_o0 A B c i _ (by show 0 + j.val < _; omega)).trans (congrArg (total A B c i) (Fin.ext (Nat.zero_add _)))

end Cert.Cube

end
-- ==== Proof.Whole.lean ====
/-
# The whole product, block by block

The reference multiplies the whole matrices. The contraction runs over the eight devices' columns one device after the other, so an element of row
block `c` is the sum of the devices' shares, which is what device `c`'s result buffer holds.
-/
module

public import proofs.«01_k».proof.Proof.Value
public import Idealize.ShloMosaic.Lib.StackMember
public import Idealize.ShloMosaic.Lib.Layout

@[expose] public section

noncomputable section

namespace Cert.Cube

open Cert.KernelIdeal Cert.KernelIdeal.Gen
open Idealize.ShloMosaic hiding ix2 ix3
open Idealize.ShloMosaic.VecWindow Idealize.ShloMosaic.ValueIdx
open scoped BigOperators

/-- The whole of the two matrices. -/
abbrev Left : Type := FVec Ideal ⟨2, ![2048, 8192]⟩ .bf16
abbrev Right : Type := FVec Ideal ⟨2, ![8192, 2048]⟩ .bf16

/-- The devices' blocks of them: columns of the left one, rows of the right one. -/
abbrev colsOf (X : Left) (e : Dev nD) : Vec Ideal S2048x1024 .bf16 := Layout.block ⟨2, ![2048, 1024]⟩ ⟨2, ![2048, 8192]⟩ 1 8 e X
abbrev rowsOf (Y : Right) (e : Dev nD) : Vec Ideal S1024x2048 .bf16 := Layout.block ⟨2, ![1024, 2048]⟩ ⟨2, ![8192, 2048]⟩ 0 8 e Y

/-- A sum over 8192 positions, 1024 at a time. -/
theorem sum_blocks {M : Type} [AddCommMonoid M] (f : Fin 8192 → M) :
    ∑ k, f k = ∑ e : Fin 8, ∑ k : Fin 1024, f ⟨e.val * 1024 + k.val, by omega⟩ := by
  refine ((finProdFinEquiv (m := 8) (n := 1024)).sum_comp f).symm.trans ((Fintype.sum_prod_type _).trans ?_)
  refine Finset.sum_congr rfl fun e _ => Finset.sum_congr rfl fun k _ => congrArg f (Fin.ext ?_)
  show k.val + 1024 * e.val = e.val * 1024 + k.val
  omega

/-- An element of row block `c` of the whole product. -/
theorem product_at (X : Left) (Y : Right) (c : Dev nD) (i : Fin 256) (j : Fin 2048) :
    Host.dotGeneral (F := Ideal) (φ₁ := .bf16) (φ₂ := .bf16) (DotDims.plain 2048 8192 2048) none X Y (ix2 (⟨c.val * 256 + i.val, by have := c.isLt; have : nD = 8 := rfl; omega⟩ : Fin 2048) j)
      = total (colsOf X) (rowsOf Y) c i j := by
  rw [StackMember.dotGeneral_plain_apply, sum_blocks]
  unfold total
  rw [Finset.sum_apply, Finset.sum_apply]
  refine Finset.sum_congr rfl fun e _ => Finset.sum_congr rfl fun k _ => congrArg₂ (· * ·) (congrArg X ?_) (congrArg Y ?_)
  · funext a
    apply Fin.ext
    match a with
    | ⟨0, _⟩ => exact congrArg (· + i.val) (Nat.mul_comm c.val 256)
    | ⟨1, _⟩ => rfl
  · funext a
    apply Fin.ext
    match a with
    | ⟨0, _⟩ => rfl
    | ⟨1, _⟩ => rfl

/-- Device `c`'s result is row block `c` of the whole product. -/
theorem outAt_block (X : Left) (Y : Right) (c : Dev nD) :
    outAt (colsOf X) (rowsOf Y) c = Layout.block ⟨2, ![256, 2048]⟩ ⟨2, ![2048, 2048]⟩ 0 8 c
      (Host.dotGeneral (F := Ideal) (φ₁ := .bf16) (φ₂ := .bf16) (DotDims.plain 2048 8192 2048) none X Y) := by
  funext y
  rw [show y = ix2 (y 0) (y 1) from ValueIdx.eq_ix2 y]
  refine (outAt_total _ _ c (y 0) (y 1)).trans ((product_at X Y c (y 0) (y 1)).symm.trans (congrArg _ ?_))
  funext a
  apply Fin.ext
  match a with
  | ⟨0, _⟩ => rfl
  | ⟨1, _⟩ => rfl

end Cert.Cube

end
-- ==== Proof.Equation.lean ====
/-
# The kernel computes the product

Over the extended reals, started on blocks of the two whole matrices, the kernel leaves on every device its row block of the product that the
reference computes.
-/
module

public import proofs.«01_k».proof.Proof.Frames
public import proofs.«01_k».proof.Proof.Whole

@[expose] public section

noncomputable section

namespace Cert.Cube

open Idealize.ShloMosaic Idealize.ShloMosaic.TcCoe Idealize.SL.Sem

attribute [local instance] Cert.KernelIdeal.Gen.facts

section Read

open Cert.KernelIdeal Cert.KernelIdeal.Gen

variable {F : FTy → Type} [FloatOps F]
variable (m : (ℓ : Loc nD τ sig) → Buf (Elt F) ℓ) (ρ : Dev nD → PrngReg)

/-- A device's operands are its two argument buffers: the one block of each window is the whole buffer. -/
theorem opA_eq (c : Dev nD) : opA m ρ c = m ((c : Thread nD τ).loc main_arg0) :=
  Memref.read_access_unit_zero (Elt F) main_arg0 (funext fun a => by fin_cases a <;> decide) (fun a => by fin_cases a <;> decide) _
theorem opB_eq (c : Dev nD) : opB m ρ c = m ((c : Thread nD τ).loc main_arg1) :=
  Memref.read_access_unit_zero (Elt F) main_arg1 (funext fun a => by fin_cases a <;> decide) (fun a => by fin_cases a <;> decide) _

/-- What the run leaves in the result buffer: the one block written back. -/
theorem finalA_2 (c : Dev nD) : finalA m ρ c (2 : Fin 3) = outAt (opA m ρ) (opB m ρ) c := by
  have h : (win0_2.blk t0_0).view.read (Elt F) (finalA m ρ c (2 : Fin 3)) = outAt (opA m ρ) (opB m ρ) c := by
    unfold finalA
    rw [show cfg0.N = (t0_0 : Fin cfg0.N).val + 1 from rfl, (dats m ρ 0 c).arrAt_succ (2 : Fin 3) t0_0]
    rw [show (cfg0.win (2 : Fin 3)).flush t0_0 = true from flush0_2 t0_0, if_pos rfl]
    exact View.read_write_univ _ _
  exact (Memref.read_access_unit_zero (Elt F) main_v1 (funext fun a => by fin_cases a <;> decide) (fun a => by fin_cases a <;> decide) _).symm.trans h

end Read

theorem algebraic : Cert.algebraic_KernelIdeal_ReferenceIdeal (hKernelIdeal := Cert.KernelIdeal.Gen.facts) (hReferenceIdeal := Cert.ReferenceIdeal.Gen.facts) := by
  intro m ρ m' ρ' _ hagree
  refine ⟨_, ?_, (θ_run (Cert.ReferenceIdeal.defs (F := Ideal)) _ _).mono (fun _ h => h 0) (Cert.ReferenceIdeal.Value.run m' ρ')⟩
  refine (θ_run (Cert.KernelIdeal.defs (F := Ideal)) _ _).mono
    (fun _ h c => ⟨(h.1 c (2 : Fin 3)).trans ?_, (h.1 c (0 : Fin 3)).trans (finalA_0 m ρ c), (h.1 c (1 : Fin 3)).trans (finalA_1 m ρ c)⟩) (run_main m ρ)
  have hA : opA m ρ = colsOf _ := funext fun e => (opA_eq m ρ e).trans (hagree e).1
  have hB : opB m ρ = rowsOf _ := funext fun e => (opB_eq m ρ e).trans (hagree e).2
  refine (finalA_2 m ρ c).trans ?_
  rw [hA, hB]
  exact outAt_block _ _ c

end Cert.Cube

end
-- ==== Proof.lean ====
/-
# The certificate

Assembles the claims from `Frames.lean` and `Equation.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

theorem claim : Cert.Claim := ⟨Cert.Kernel.Gen.facts, Cert.KernelIdeal.Gen.facts, Cert.ReferenceIdeal.Gen.facts,
  Cert.Cube.frame_kernel, Cert.Cube.frame_ideal, Cert.Cube.frame_reference, trivial, Cert.Cube.algebraic⟩

end Cert.Proof

end
